-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_weights [hPre_finite_weights : Cert.Pre_finite_weights.Facts] (m : (ℓ : Loc Cert.KernelIdeal.nD Cert.KernelIdeal.τ Cert.KernelIdeal.sig) → Buf (Elt Ideal) ℓ) : Prop :=
  ∀ c : Dev Cert.KernelIdeal.nD,
    (Cert.Pre_finite_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_weights [hPre_finite_weights : Cert.Pre_finite_weights.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_weights [hKernelIdeal : Cert.KernelIdeal.Facts] [hPre_finite_weights : Cert.Pre_finite_weights.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_weights m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_weights [hReferenceIdeal : Cert.ReferenceIdeal.Facts] [hPre_finite_weights : Cert.Pre_finite_weights.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_weights m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "scale" .bf16 0x3E03#16 (((Real.sqrt 128)⁻¹ * (Real.log 2)⁻¹ : ℝ) : EReal)

def algebraic_KernelIdeal_ReferenceIdeal_pre_finite_weights [hKernelIdeal : Cert.KernelIdeal.Facts] [hReferenceIdeal : Cert.ReferenceIdeal.Facts] [hPre_finite_weights : Cert.Pre_finite_weights.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_weights m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_weights : Cert.Pre_finite_weights.Facts),
    quiescent_Kernel (hKernel := hKernel)
    ∧ quiescent_KernelIdeal (hKernelIdeal := hKernelIdeal)
    ∧ quiescent_KernelIdeal_pre_finite_weights (hKernelIdeal := hKernelIdeal) (hPre_finite_weights := hPre_finite_weights)
    ∧ quiescent_ReferenceIdeal (hReferenceIdeal := hReferenceIdeal)
    ∧ quiescent_ReferenceIdeal_pre_finite_weights (hReferenceIdeal := hReferenceIdeal) (hPre_finite_weights := hPre_finite_weights)
    ∧ preserves_Kernel_KernelIdeal
    ∧ algebraic_KernelIdeal_ReferenceIdeal_pre_finite_weights (hKernelIdeal := hKernelIdeal) (hReferenceIdeal := hReferenceIdeal) (hPre_finite_weights := hPre_finite_weights)
-- ==== Pre_finite_weights.lean ====
abbrev S2x2048 : Shape := ⟨2, ![2, 2048]⟩
abbrev S2x2048x2048 : Shape := ⟨3, ![2, 2048, 2048]⟩
abbrev S2048x6144 : Shape := ⟨2, ![2048, 6144]⟩
abbrev S2048x2048 : Shape := ⟨2, ![2048, 2048]⟩
abbrev S2048x4096 : Shape := ⟨2, ![2048, 4096]⟩
abbrev S_ : Shape := ⟨0, ![]⟩

class Facts : Prop where
  slices_S2048x6144_S2048x4096_0_0 : S2048x6144.Slices ![0, 0] S2048x4096
  bcast_S_S2048x4096 : S_.BroadcastsInDim S2048x4096 (![] : Fin 0 → Fin S2048x4096.rank)
  reducesTo_S2048x4096_S_d0_1 : S2048x4096.ReducesTo [0, 1] S_
  h_S_ : 0 < S_.numel

variable [Facts]

def fn {F : FTy → Type} [FloatOps F] (main_arg0 : IVec S2x2048 32) (main_arg1 : FVec F S2x2048x2048 .f32) (main_arg2 : FVec F S2048x6144 .f32) (main_arg3 : FVec F S2048x2048 .f32) : IVec S_ 1 :=
  let main_v0 : FVec F S2048x4096 .f32 := (extractStridedSlice S2048x4096 ![0, 0] · slices_S2048x6144_S2048x4096_0_0) main_arg2
  let main_v1 : FVec F S2048x4096 .f32 := Host.absf main_v0
  let main_cst : FVec F S_ .f32 := constant S_ .f32 0x7F800000#32
  let main_v2 : FVec F S2048x4096 .f32 := broadcastInDim S2048x4096 ![] bcast_S_S2048x4096 main_cst
  let main_v3 : IVec S2048x4096 1 := cmpf .olt main_v1 main_v2
  let main_c : IVec S_ 1 := constantI S_ 1 1#1
  let main_v4 : IVec S_ 1 := (fun x v => Host.reduce IntOp.andi x v reducesTo_S2048x4096_S_d0_1 h_S_) main_v3 main_c
  main_v4
-- ==== Kernel.lean ====
abbrev S2x2048 : Shape := ⟨2, ![2, 2048]⟩
abbrev S2x2048x2048 : Shape := ⟨3, ![2, 2048, 2048]⟩
abbrev S2048x6144 : Shape := ⟨2, ![2048, 6144]⟩
abbrev S2048x2048 : Shape := ⟨2, ![2048, 2048]⟩
abbrev S4096x2048 : Shape := ⟨2, ![4096, 2048]⟩
abbrev S4096 : Shape := ⟨1, ![4096]⟩
abbrev S64 : Shape := ⟨1, ![64]⟩
abbrev S_ : Shape := ⟨0, ![]⟩
abbrev S4096x1 : Shape := ⟨2, ![4096, 1]⟩
abbrev S1x64 : Shape := ⟨2, ![1, 64]⟩
abbrev S4096x64 : Shape := ⟨2, ![4096, 64]⟩
abbrev S4096x128 : Shape := ⟨2, ![4096, 128]⟩
abbrev S3x2x2048x2048 : Shape := ⟨4, ![3, 2, 2048, 2048]⟩
abbrev S1024x2048 : Shape := ⟨2, ![1024, 2048]⟩
abbrev S1024x128 : Shape := ⟨2, ![1024, 128]⟩
abbrev S1x1x1024x2048 : Shape := ⟨4, ![1, 1, 1024, 2048]⟩
abbrev S1024 : Shape := ⟨1, ![1024]⟩
abbrev S1024x1 : Shape := ⟨2, ![1024, 1]⟩
abbrev S2048x1024 : Shape := ⟨2, ![2048, 1024]⟩
abbrev S1024x1024 : Shape := ⟨2, ![1024, 1024]⟩
abbrev S1024x64 : Shape := ⟨2, ![1024, 64]⟩
abbrev S1x1x1024x1024 : Shape := ⟨4, ![1, 1, 1024, 1024]⟩
abbrev S1x1x512x128 : Shape := ⟨4, ![1, 1, 512, 128]⟩
abbrev S1x1x1024x128 : Shape := ⟨4, ![1, 1, 1024, 128]⟩
abbrev S1x512x128 : Shape := ⟨3, ![1, 512, 128]⟩
abbrev S4x512x128 : Shape := ⟨3, ![4, 512, 128]⟩
abbrev S512x128 : Shape := ⟨2, ![512, 128]⟩
abbrev S512x512 : Shape := ⟨2, ![512, 512]⟩
abbrev S512 : Shape := ⟨1, ![512]⟩
abbrev S512x1 : Shape := ⟨2, ![512, 1]⟩
abbrev S1x512 : Shape := ⟨2, ![1, 512]⟩
abbrev S1x512x1 : Shape := ⟨3, ![1, 512, 1]⟩
abbrev S512x2048 : Shape := ⟨2, ![512, 2048]⟩

abbrev nBuf : Space → Nat
  | .hbm => 32
  | .vmem => 25
  | .smem => 0
  | _ => 0

abbrev bufTy : (tb : Table) → Fin (tcTables nBuf tb) → BufTy
  | .hbm, ⟨0, _⟩ => ⟨S2x2048, .i32⟩
  | .hbm, ⟨1, _⟩ => ⟨S2x2048x2048, .f32⟩
  | .hbm, ⟨2, _⟩ => ⟨S2048x6144, .f32⟩
  | .hbm, ⟨3, _⟩ => ⟨S2048x2048, .f32⟩
  | .hbm, ⟨4, _⟩ => ⟨S4096x2048, .f32⟩
  | .hbm, ⟨5, _⟩ => ⟨S4096, .i32⟩
  | .hbm, ⟨6, _⟩ => ⟨S4096, .f32⟩
  | .hbm, ⟨7, _⟩ => ⟨S64, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S4096x1, .f32⟩
  | .hbm, ⟨18, _⟩ => ⟨S1x64, .f32⟩
  | .hbm, ⟨19, _⟩ => ⟨S4096x64, .f32⟩
  | .hbm, ⟨20, _⟩ => ⟨S4096x64, .f32⟩
  | .hbm, ⟨21, _⟩ => ⟨S4096x64, .f32⟩
  | .hbm, ⟨22, _⟩ => ⟨S4096x64, .f32⟩
  | .hbm, ⟨23, _⟩ => ⟨S4096x64, .f32⟩
  | .hbm, ⟨24, _⟩ => ⟨S4096x128, .f32⟩
  | .hbm, ⟨25, _⟩ => ⟨S2048x6144, .bf16⟩
  | .hbm, ⟨26, _⟩ => ⟨S3x2x2048x2048, .bf16⟩
  | .hbm, ⟨27, _⟩ => ⟨S2x2048x2048, .bf16⟩
  | .hbm, ⟨28, _⟩ => ⟨S4096x2048, .bf16⟩
  | .hbm, ⟨29, _⟩ => ⟨S2048x2048, .bf16⟩
  | .hbm, ⟨30, _⟩ => ⟨S4096x2048, .f32⟩
  | .hbm, ⟨31, _⟩ => ⟨S2x2048x2048, .f32⟩
  | .local _ .vmem, ⟨0, _⟩ => ⟨S1024x2048, .f32⟩
  | .local _ .vmem, ⟨1, _⟩ => ⟨S1024x2048, .f32⟩
  | .local _ .vmem, ⟨2, _⟩ => ⟨S2048x2048, .bf16⟩
  | .local _ .vmem, ⟨3, _⟩ => ⟨S2048x2048, .bf16⟩
  | .local _ .vmem, ⟨4, _⟩ => ⟨S1024x128, .f32⟩
  | .local _ .vmem, ⟨5, _⟩ => ⟨S1024x128, .f32⟩
  | .local _ .vmem, ⟨6, _⟩ => ⟨S1x1x1024x2048, .bf16⟩
  | .local _ .vmem, ⟨7, _⟩ => ⟨S1x1x1024x2048, .bf16⟩
  | .local _ .vmem, ⟨8, _⟩ => ⟨S1024x2048, .bf16⟩
  | .local _ .vmem, ⟨9, _⟩ => ⟨S1x1x512x128, .bf16⟩
  | .local _ .vmem, ⟨10, _⟩ => ⟨S1x1x512x128, .bf16⟩
  | .local _ .vmem, ⟨11, _⟩ => ⟨S1x1x1024x128, .bf16⟩
  | .local _ .vmem, ⟨12, _⟩ => ⟨S1x1x1024x128, .bf16⟩
  | .local _ .vmem, ⟨13, _⟩ => ⟨S1x1x1024x128, .bf16⟩
  | .local _ .vmem, ⟨14, _⟩ => ⟨S1x1x1024x128, .bf16⟩
  | .local _ .vmem, ⟨15, _⟩ => ⟨S1x512x128, .bf16⟩
  | .local _ .vmem, ⟨16, _⟩ => ⟨S1x512x128, .bf16⟩
  | .local _ .vmem, ⟨17, _⟩ => ⟨S4x512x128, .f32⟩
  | .local _ .vmem, ⟨18, _⟩ => ⟨S4x512x128, .f32⟩
  | .local _ .vmem, ⟨19, _⟩ => ⟨S4x512x128, .f32⟩
  | .local _ .vmem, ⟨20, _⟩ => ⟨S512x2048, .bf16⟩
  | .local _ .vmem, ⟨21, _⟩ => ⟨S512x2048, .bf16⟩
  | .local _ .vmem, ⟨22, _⟩ => ⟨S2048x2048, .bf16⟩
  | .local _ .vmem, ⟨23, _⟩ => ⟨S512x2048, .f32⟩
  | .local _ .vmem, ⟨24, _⟩ => ⟨S512x2048, .f32⟩
  | _, _ => ⟨S2x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc1_scratch1 : Ref sig .tc := ⟨.vmem, 18, rfl⟩
abbrev cc1_scratch2 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg2_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem2_1 : DmaSem sig := 20

abbrev nD : Nat := 1
abbrev τ : Topo := Topo.v7x

variable {F : FTy → Type} [FloatOps F]

abbrev grid0 : Pipeline.Grid := ⟨2, ![4, 3], ![false, false]⟩

def k0_cond2 (i : grid0.Coords) : BitVec 1 :=
  let arg1 : BitVec 32 := BitVec.ofNat 32 (i 1).val
  let c2_i32 : BitVec 32 := 2#32
  let v7 : BitVec 1 := Scalar.cmpi .slt arg1 c2_i32
  let v8 : BitVec 32 := Scalar.extui v7
  let c0_i32_4 : BitVec 32 := 0#32
  let v9 : BitVec 1 := Scalar.cmpi .ne v8 c0_i32_4
  v9

def k0_cond3 (i : grid0.Coords) : BitVec 1 :=
  let arg1 : BitVec 32 := BitVec.ofNat 32 (i 1).val
  let c2_i32_5 : BitVec 32 := 2#32
  let v10 : BitVec 1 := Scalar.cmpi .sge arg1 c2_i32_5
  let v11 : BitVec 32 := Scalar.extui v10
  let c0_i32_6 : BitVec 32 := 0#32
  let v12 : BitVec 1 := Scalar.cmpi .ne v11 c0_i32_6
  v12

def k0_cond4 (i : grid0.Coords) : BitVec 1 :=
  let arg1 : BitVec 32 := BitVec.ofNat 32 (i 1).val
  let c2_i32_11 : BitVec 32 := 2#32
  let v17 : BitVec 1 := Scalar.cmpi .slt arg1 c2_i32_11
  let v18 : BitVec 32 := Scalar.extui v17
  let c0_i32_12 : BitVec 32 := 0#32
  let v19 : BitVec 1 := Scalar.cmpi .ne v18 c0_i32_12
  v19

def k0_cond5 (i : grid0.Coords) : BitVec 1 :=
  let arg1 : BitVec 32 := BitVec.ofNat 32 (i 1).val
  let c2_i32_13 : BitVec 32 := 2#32
  let v20 : BitVec 1 := Scalar.cmpi .sge arg1 c2_i32_13
  let v21 : BitVec 32 := Scalar.extui v20
  let c0_i32_14 : BitVec 32 := 0#32
  let v22 : BitVec 1 := Scalar.cmpi .ne v21 c0_i32_14
  v22

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![arg1.toNat, v16.toNat, v26.toNat, c0_i32_10.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨3, ![32, 4, 2], ![false, false, false]⟩

def k1_cond2 (i : grid1.Coords) : BitVec 1 :=
  let arg2 : BitVec 32 := BitVec.ofNat 32 (i 2).val
  let arg1 : BitVec 32 := BitVec.ofNat 32 (i 1).val
  let c0_i32_3 : BitVec 32 := 0#32
  let v8 : BitVec 1 := Scalar.cmpi .sgt arg1 c0_i32_3
  let v9 : BitVec 32 := Scalar.extui v8
  let c0_i32_4 : BitVec 32 := 0#32
  let v10 : BitVec 1 := Scalar.cmpi .slt arg1 c0_i32_4
  let v11 : BitVec 32 := Scalar.extui v10
  let v12 : BitVec 32 := Scalar.subi v9 v11
  let c2_i32 : BitVec 32 := 2#32
  let c0_i32_5 : BitVec 32 := 0#32
  let v13 : BitVec 1 := Scalar.cmpi .sgt c2_i32 c0_i32_5
  let v14 : BitVec 32 := Scalar.extui v13
  let c0_i32_6 : BitVec 32 := 0#32
  let v15 : BitVec 1 := Scalar.cmpi .slt c2_i32 c0_i32_6
  let v16 : BitVec 32 := Scalar.extui v15
  let v17 : BitVec 32 := Scalar.subi v14 v16
  let v18 : BitVec 1 := Scalar.cmpi .ne v12 v17
  let v19 : BitVec 32 := Scalar.remsi arg1 c2_i32
  let c0_i32_7 : BitVec 32 := 0#32
  let v20 : BitVec 1 := Scalar.cmpi .ne v19 c0_i32_7
  let v21 : BitVec 1 := Scalar.andi v18 v20
  let v7 : BitVec 32 := Scalar.divsi arg1 c2_i32
  let c1_i32 : BitVec 32 := 1#32
  let v22 : BitVec 32 := Scalar.subi v7 c1_i32
  let v23 : BitVec 32 := Scalar.select v21 v22 v7
  let v24 : BitVec 1 := Scalar.cmpi .slt arg2 v23
  let v25 : BitVec 32 := Scalar.extui v24
  let c0_i32_8 : BitVec 32 := 0#32
  let v26 : BitVec 1 := Scalar.cmpi .ne v25 c0_i32_8
  v26

def k1_off1 (i : grid1.Coords) (c0_i32_14 : BitVec 32) : Fin 3 → Nat :=
  let arg2 : BitVec 32 := BitVec.ofNat 32 (i 2).val
  let c2_i32_13 : BitVec 32 := 2#32
  let v34 : BitVec 32 := Scalar.muli arg2 c2_i32_13
  let v35 : BitVec 32 := Scalar.addi v34 c0_i32_14
  let v50 : Index := Scalar.indexCast v35
  let c0_27 : Index := 0#32
  let c0_28 : Index := 0#32
  ![v50.toNat, 0, 0]
def k1_cond3 (i : grid1.Coords) : BitVec 1 :=
  let arg2 : BitVec 32 := BitVec.ofNat 32 (i 2).val
  let arg1 : BitVec 32 := BitVec.ofNat 32 (i 1).val
  let c0_i32_3 : BitVec 32 := 0#32
  let v8 : BitVec 1 := Scalar.cmpi .sgt arg1 c0_i32_3
  let v9 : BitVec 32 := Scalar.extui v8
  let c0_i32_4 : BitVec 32 := 0#32
  let v10 : BitVec 1 := Scalar.cmpi .slt arg1 c0_i32_4
  let v11 : BitVec 32 := Scalar.extui v10
  let v12 : BitVec 32 := Scalar.subi v9 v11
  let c2_i32 : BitVec 32 := 2#32
  let c0_i32_5 : BitVec 32 := 0#32
  let v13 : BitVec 1 := Scalar.cmpi .sgt c2_i32 c0_i32_5
  let v14 : BitVec 32 := Scalar.extui v13
  let c0_i32_6 : BitVec 32 := 0#32
  let v15 : BitVec 1 := Scalar.cmpi .slt c2_i32 c0_i32_6
  let v16 : BitVec 32 := Scalar.extui v15
  let v17 : BitVec 32 := Scalar.subi v14 v16
  let v18 : BitVec 1 := Scalar.cmpi .ne v12 v17
  let v19 : BitVec 32 := Scalar.remsi arg1 c2_i32
  let c0_i32_7 : BitVec 32 := 0#32
  let v20 : BitVec 1 := Scalar.cmpi .ne v19 c0_i32_7
  let v21 : BitVec 1 := Scalar.andi v18 v20
  let v7 : BitVec 32 := Scalar.divsi arg1 c2_i32
  let c1_i32 : BitVec 32 := 1#32
  let v22 : BitVec 32 := Scalar.subi v7 c1_i32
  let v23 : BitVec 32 := Scalar.select v21 v22 v7
  let v27 : BitVec 1 := Scalar.cmpi .eq arg2 v23
  let v28 : BitVec 32 := Scalar.extui v27
  let c0_i32_9 : BitVec 32 := 0#32
  let v29 : BitVec 1 := Scalar.cmpi .ne v28 c0_i32_9
  v29

def k1_off2 (i : grid1.Coords) (c0_i32_14 : BitVec 32) : Fin 3 → Nat :=
  let arg2 : BitVec 32 := BitVec.ofNat 32 (i 2).val
  let c2_i32_13 : BitVec 32 := 2#32
  let v34 : BitVec 32 := Scalar.muli arg2 c2_i32_13
  let v35 : BitVec 32 := Scalar.addi v34 c0_i32_14
  let v64 : Index := Scalar.indexCast v35
  let c0_29 : Index := 0#32
  let c0_30 : Index := 0#32
  ![v64.toNat, 0, 0]
def cc1_transform_0 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![c0_i32_10.toNat, v16.toNat, arg1.toNat, v26.toNat]

def cc1_transform_1 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.divsi arg1 c2_i32
  let c0_i32_4 : BitVec 32 := 0#32
  let v18 : BitVec 1 := Scalar.cmpi .sgt arg1 c0_i32_4
  let v19 : BitVec 32 := Scalar.extui v18
  let c0_i32_5 : BitVec 32 := 0#32
  let v20 : BitVec 1 := Scalar.cmpi .slt arg1 c0_i32_5
  let v21 : BitVec 32 := Scalar.extui v20
  let v22 : BitVec 32 := Scalar.subi v19 v21
  let c0_i32_6 : BitVec 32 := 0#32
  let v23 : BitVec 1 := Scalar.cmpi .sgt c2_i32 c0_i32_6
  let v24 : BitVec 32 := Scalar.extui v23
  let c0_i32_7 : BitVec 32 := 0#32
  let v25 : BitVec 1 := Scalar.cmpi .slt c2_i32 c0_i32_7
  let v26 : BitVec 32 := Scalar.extui v25
  let v27 : BitVec 32 := Scalar.subi v24 v26
  let v28 : BitVec 1 := Scalar.cmpi .ne v22 v27
  let v29 : BitVec 32 := Scalar.remsi arg1 c2_i32
  let c0_i32_8 : BitVec 32 := 0#32
  let v30 : BitVec 1 := Scalar.cmpi .ne v29 c0_i32_8
  let v31 : BitVec 1 := Scalar.andi v28 v30
  let c1_i32_9 : BitVec 32 := 1#32
  let v32 : BitVec 32 := Scalar.subi v17 c1_i32_9
  let v33 : BitVec 32 := Scalar.select v31 v32 v17
  let v34 : BitVec 32 := Scalar.minsi arg2 v33
  let c16_i32_10 : BitVec 32 := 16#32
  let c0_i32_11 : BitVec 32 := 0#32
  let v35 : BitVec 1 := Scalar.cmpi .eq c16_i32_10 c0_i32_11
  let c1_i32_12 : BitVec 32 := 1#32
  let v36 : BitVec 32 := Scalar.select v35 c1_i32_12 c16_i32_10
  let v37 : BitVec 32 := Scalar.remsi arg0 v36
  let c0_i32_13 : BitVec 32 := 0#32
  let v38 : BitVec 1 := Scalar.cmpi .ne v37 c0_i32_13
  let c0_i32_14 : BitVec 32 := 0#32
  let v39 : BitVec 1 := Scalar.cmpi .slt v37 c0_i32_14
  let c0_i32_15 : BitVec 32 := 0#32
  let v40 : BitVec 1 := Scalar.cmpi .slt v36 c0_i32_15
  let v41 : BitVec 1 := Scalar.xori v39 v40
  let v42 : BitVec 1 := Scalar.andi v41 v38
  let v43 : BitVec 32 := Scalar.addi v37 v36
  let v44 : BitVec 32 := Scalar.select v42 v43 v37
  let c1_i32_16 : BitVec 32 := 1#32
  let c0_i32_17 : BitVec 32 := 0#32
  ![c1_i32_16.toNat, v16.toNat, v34.toNat, v44.toNat]

def cc1_transform_2 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.divsi arg1 c2_i32
  let c0_i32_4 : BitVec 32 := 0#32
  let v18 : BitVec 1 := Scalar.cmpi .sgt arg1 c0_i32_4
  let v19 : BitVec 32 := Scalar.extui v18
  let c0_i32_5 : BitVec 32 := 0#32
  let v20 : BitVec 1 := Scalar.cmpi .slt arg1 c0_i32_5
  let v21 : BitVec 32 := Scalar.extui v20
  let v22 : BitVec 32 := Scalar.subi v19 v21
  let c0_i32_6 : BitVec 32 := 0#32
  let v23 : BitVec 1 := Scalar.cmpi .sgt c2_i32 c0_i32_6
  let v24 : BitVec 32 := Scalar.extui v23
  let c0_i32_7 : BitVec 32 := 0#32
  let v25 : BitVec 1 := Scalar.cmpi .slt c2_i32 c0_i32_7
  let v26 : BitVec 32 := Scalar.extui v25
  let v27 : BitVec 32 := Scalar.subi v24 v26
  let v28 : BitVec 1 := Scalar.cmpi .ne v22 v27
  let v29 : BitVec 32 := Scalar.remsi arg1 c2_i32
  let c0_i32_8 : BitVec 32 := 0#32
  let v30 : BitVec 1 := Scalar.cmpi .ne v29 c0_i32_8
  let v31 : BitVec 1 := Scalar.andi v28 v30
  let c1_i32_9 : BitVec 32 := 1#32
  let v32 : BitVec 32 := Scalar.subi v17 c1_i32_9
  let v33 : BitVec 32 := Scalar.select v31 v32 v17
  let v34 : BitVec 32 := Scalar.minsi arg2 v33
  let c16_i32_10 : BitVec 32 := 16#32
  let c0_i32_11 : BitVec 32 := 0#32
  let v35 : BitVec 1 := Scalar.cmpi .eq c16_i32_10 c0_i32_11
  let c1_i32_12 : BitVec 32 := 1#32
  let v36 : BitVec 32 := Scalar.select v35 c1_i32_12 c16_i32_10
  let v37 : BitVec 32 := Scalar.remsi arg0 v36
  let c0_i32_13 : BitVec 32 := 0#32
  let v38 : BitVec 1 := Scalar.cmpi .ne v37 c0_i32_13
  let c0_i32_14 : BitVec 32 := 0#32
  let v39 : BitVec 1 := Scalar.cmpi .slt v37 c0_i32_14
  let c0_i32_15 : BitVec 32 := 0#32
  let v40 : BitVec 1 := Scalar.cmpi .slt v36 c0_i32_15
  let v41 : BitVec 1 := Scalar.xori v39 v40
  let v42 : BitVec 1 := Scalar.andi v41 v38
  let v43 : BitVec 32 := Scalar.addi v37 v36
  let v44 : BitVec 32 := Scalar.select v42 v43 v37
  let c2_i32_16 : BitVec 32 := 2#32
  let c0_i32_17 : BitVec 32 := 0#32
  ![c2_i32_16.toNat, v16.toNat, v34.toNat, v44.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

abbrev stage1_0 : Fin 2 → Memref sig .tc .vmem S1x1x512x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x1x1024x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S1x1x1024x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

abbrev stage1_3 : Fin 2 → Memref sig .tc .vmem S1x512x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S2048x2048 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]
-- ==== KernelIdeal.lean ====
variable {F : FTy → Type} [FloatOps F] [Named F]
def κ : String → Option EReal := fun
  | "mask" => some ⊥
  | "scale" => some (((Real.sqrt 128)⁻¹ * (Real.log 2)⁻¹ : ℝ) : EReal)
  | _ => none
-- ==== ReferenceIdeal.lean ====
abbrev S2x2048 : Shape := ⟨2, ![2, 2048]⟩
abbrev S2x2048x2048 : Shape := ⟨3, ![2, 2048, 2048]⟩
abbrev S2048x6144 : Shape := ⟨2, ![2048, 6144]⟩
abbrev S2048x2048 : Shape := ⟨2, ![2048, 2048]⟩
abbrev S_ : Shape := ⟨0, ![]⟩
abbrev S2x2048x1 : Shape := ⟨3, ![2, 2048, 1]⟩
abbrev S2x2048x6144 : Shape := ⟨3, ![2, 2048, 6144]⟩
abbrev S2x2048x16x128 : Shape := ⟨4, ![2, 2048, 16, 128]⟩
abbrev S64 : Shape := ⟨1, ![64]⟩
abbrev S1x1x64 : Shape := ⟨3, ![1, 1, 64]⟩
abbrev S2x2048x64 : Shape := ⟨3, ![2, 2048, 64]⟩
abbrev S2x2048x1x64 : Shape := ⟨4, ![2, 2048, 1, 64]⟩
abbrev S2x2048x16x64 : Shape := ⟨4, ![2, 2048, 16, 64]⟩
abbrev S2x16x2048x2048 : Shape := ⟨4, ![2, 16, 2048, 2048]⟩
abbrev S2x16x2048 : Shape := ⟨3, ![2, 16, 2048]⟩
abbrev S2x16x2048x1 : Shape := ⟨4, ![2, 16, 2048, 1]⟩
abbrev S2x16x128x2048 : Shape := ⟨4, ![2, 16, 128, 2048]⟩

abbrev nBuf : Space → Nat
  | .hbm => 141
  | .vmem => 0
  | .smem => 0
  | _ => 0

abbrev hbmTy0_0 (i : Nat) : BufTy := match i % 128 with
  | 0 => ⟨S2x2048, .i32⟩
  | 1 => ⟨S2x2048x2048, .f32⟩
  | 2 => ⟨S2048x6144, .f32⟩
  | 3 => ⟨S2048x2048, .f32⟩
  | 4 => ⟨S_, .f32⟩
  | 5 => ⟨S2x2048, .f32⟩
  | 6 => ⟨S2x2048x1, .f32⟩
  | 7 => ⟨S_, .f32⟩
  | 8 => ⟨S2x2048x1, .f32⟩
  | 9 => ⟨S2x2048x1, .f32⟩
  | 10 => ⟨S2x2048x2048, .f32⟩
  | 11 => ⟨S2x2048x2048, .f32⟩
  | 12 => ⟨S2x2048x2048, .f32⟩
  | 13 => ⟨S_, .f32⟩
  | 14 => ⟨S2x2048, .f32⟩
  | 15 => ⟨S2x2048x1, .f32⟩
  | 16 => ⟨S_, .f32⟩
  | 17 => ⟨S2x2048x1, .f32⟩
  | 18 => ⟨S2x2048x1, .f32⟩
  | 19 => ⟨S2x2048x2048, .f32⟩
  | 20 => ⟨S2x2048x2048, .f32⟩
  | 21 => ⟨S_, .f32⟩
  | 22 => ⟨S2x2048x1, .f32⟩
  | 23 => ⟨S2x2048x1, .f32⟩
  | 24 => ⟨S2x2048x1, .f32⟩
  | 25 => ⟨S2x2048x2048, .f32⟩
  | 26 => ⟨S2x2048x2048, .f32⟩
  | 27 => ⟨S2x2048x6144, .f32⟩
  | 28 => ⟨S2x2048x2048, .f32⟩
  | 29 => ⟨S2x2048x2048, .f32⟩
  | 30 => ⟨S2x2048x2048, .f32⟩
  | 31 => ⟨S2x2048x16x128, .f32⟩
  | 32 => ⟨S2x2048x16x128, .f32⟩
  | 33 => ⟨S2x2048x16x128, .f32⟩
  | 34 => ⟨S64, .f32⟩
  | 35 => ⟨S_, .f32⟩
  | 36 => ⟨S64, .f32⟩
  | 37 => ⟨S64, .f32⟩
  | 38 => ⟨S_, .f32⟩
  | 39 => ⟨S64, .f32⟩
  | 40 => ⟨S64, .f32⟩
  | 41 => ⟨S_, .f32⟩
  | 42 => ⟨S64, .f32⟩
  | 43 => ⟨S64, .f32⟩
  | 44 => ⟨S2x2048, .f32⟩
  | 45 => ⟨S2x2048x1, .f32⟩
  | 46 => ⟨S1x1x64, .f32⟩
  | 47 => ⟨S2x2048x64, .f32⟩
  | 48 => ⟨S2x2048x64, .f32⟩
  | 49 => ⟨S2x2048x64, .f32⟩
  | 50 => ⟨S2x2048x64, .f32⟩
  | 51 => ⟨S2x2048x1x64, .f32⟩
  | 52 => ⟨S2x2048x64, .f32⟩
  | 53 => ⟨S2x2048x1x64, .f32⟩
  | 54 => ⟨S2x2048x16x64, .f32⟩
  | 55 => ⟨S2x2048x16x64, .f32⟩
  | 56 => ⟨S2x2048x16x64, .f32⟩
  | 57 => ⟨S2x2048x16x64, .f32⟩
  | 58 => ⟨S2x2048x16x64, .f32⟩
  | 59 => ⟨S2x2048x16x64, .f32⟩
  | 60 => ⟨S2x2048x16x64, .f32⟩
  | 61 => ⟨S2x2048x16x64, .f32⟩
  | 62 => ⟨S2x2048x16x64, .f32⟩
  | 63 => ⟨S2x2048x16x64, .f32⟩
  | 64 => ⟨S2x2048x16x64, .f32⟩
  | 65 => ⟨S2x2048x16x64, .f32⟩
  | 66 => ⟨S2x2048x16x128, .f32⟩
  | 67 => ⟨S64, .f32⟩
  | 68 => ⟨S_, .f32⟩
  | 69 => ⟨S64, .f32⟩
  | 70 => ⟨S64, .f32⟩
  | 71 => ⟨S_, .f32⟩
  | 72 => ⟨S64, .f32⟩
  | 73 => ⟨S64, .f32⟩
  | 74 => ⟨S_, .f32⟩
  | 75 => ⟨S64, .f32⟩
  | 76 => ⟨S64, .f32⟩
  | 77 => ⟨S2x2048, .f32⟩
  | 78 => ⟨S2x2048x1, .f32⟩
  | 79 => ⟨S1x1x64, .f32⟩
  | 80 => ⟨S2x2048x64, .f32⟩
  | 81 => ⟨S2x2048x64, .f32⟩
  | 82 => ⟨S2x2048x64, .f32⟩
  | 83 => ⟨S2x2048x64, .f32⟩
  | 84 => ⟨S2x2048x1x64, .f32⟩
  | 85 => ⟨S2x2048x64, .f32⟩
  | 86 => ⟨S2x2048x1x64, .f32⟩
  | 87 => ⟨S2x2048x16x64, .f32⟩
  | 88 => ⟨S2x2048x16x64, .f32⟩
  | 89 => ⟨S2x2048x16x64, .f32⟩
  | 90 => ⟨S2x2048x16x64, .f32⟩
  | 91 => ⟨S2x2048x16x64, .f32⟩
  | 92 => ⟨S2x2048x16x64, .f32⟩
  | 93 => ⟨S2x2048x16x64, .f32⟩
  | 94 => ⟨S2x2048x16x64, .f32⟩
  | 95 => ⟨S2x2048x16x64, .f32⟩
  | 96 => ⟨S2x2048x16x64, .f32⟩
  | 97 => ⟨S2x2048x16x64, .f32⟩
  | 98 => ⟨S2x2048x16x64, .f32⟩
  | 99 => ⟨S2x2048x16x128, .f32⟩
  | 100 => ⟨S_, .f32⟩
  | 101 => ⟨S_, .f32⟩
  | 102 => ⟨S_, .f32⟩
  | 103 => ⟨S_, .f32⟩
  | 104 => ⟨S2x16x2048x2048, .f32⟩
  | 105 => ⟨S2x16x2048x2048, .f32⟩
  | 106 => ⟨S2x16x2048x2048, .f32⟩
  | 107 => ⟨S_, .i1⟩
  | 108 => ⟨S2048x2048, .i1⟩
  | 109 => ⟨S2048x2048, .i32⟩
  | 110 => ⟨S_, .i32⟩
  | 111 => ⟨S2048x2048, .i32⟩
  | 112 => ⟨S2048x2048, .i32⟩
  | 113 => ⟨S2048x2048, .i32⟩
  | 114 => ⟨S2048x2048, .i1⟩
  | 115 => ⟨S_, .i1⟩
  | 116 => ⟨S2048x2048, .i1⟩
  | 117 => ⟨S2048x2048, .i1⟩
  | 118 => ⟨S_, .f32⟩
  | 119 => ⟨S_, .f32⟩
  | 120 => ⟨S2x16x2048x2048, .i1⟩
  | 121 => ⟨S2x16x2048x2048, .f32⟩
  | 122 => ⟨S2x16x2048x2048, .f32⟩
  | 123 => ⟨S_, .f32⟩
  | 124 => ⟨S2x16x2048, .f32⟩
  | 125 => ⟨S_, .f32⟩
  | 126 => ⟨S2x16x2048, .f32⟩
  | 127 => ⟨S2x16x2048, .f32⟩
  | _ => ⟨S2x2048, .i32⟩

abbrev hbmTy0_1 (i : Nat) : BufTy := match i % 128 with
  | 0 => ⟨S2x16x2048x1, .f32⟩
  | 1 => ⟨S2x16x2048x2048, .f32⟩
  | 2 => ⟨S2x16x2048x2048, .f32⟩
  | 3 => ⟨S2x16x2048x2048, .f32⟩
  | 4 => ⟨S_, .f32⟩
  | 5 => ⟨S2x16x2048, .f32⟩
  | 6 => ⟨S2x16x2048x1, .f32⟩
  | 7 => ⟨S2x16x2048x2048, .f32⟩
  | 8 => ⟨S2x16x2048x2048, .f32⟩
  | 9 => ⟨S2x16x128x2048, .f32⟩
  | 10 => ⟨S2x2048x16x128, .f32⟩
  | 11 => ⟨S2x2048x2048, .f32⟩
  | 12 => ⟨S2x2048x2048, .f32⟩
  | _ => ⟨S2x2048, .i32⟩

abbrev hbmTy (i : Nat) : BufTy := match i / 128 with
  | 0 => hbmTy0_0 i
  | 1 => hbmTy0_1 i
  | _ => ⟨S2x2048, .i32⟩

abbrev bufTy : (tb : Table) → Fin (tcTables nBuf tb) → BufTy
  | .hbm, ⟨i, _⟩ => hbmTy i
  | _, _ => ⟨S2x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_cst_7 : Ref sig .tc := ⟨.hbm, 68, rfl⟩
abbrev main_v56 : Ref sig .tc := ⟨.hbm, 69, rfl⟩
abbrev main_v57 : Ref sig .tc := ⟨.hbm, 70, rfl⟩
abbrev main_cst_8 : Ref sig .tc := ⟨.hbm, 71, rfl⟩
abbrev main_v58 : Ref sig .tc := ⟨.hbm, 72, rfl⟩
abbrev main_v59 : Ref sig .tc := ⟨.hbm, 73, rfl⟩
abbrev main_cst_9 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_cst_10 : Ref sig .tc := ⟨.hbm, 100, rfl⟩
abbrev main_v85 : Ref sig .tc := ⟨.hbm, 101, rfl⟩
abbrev main_cst_11 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_c : Ref sig .tc := ⟨.hbm, 107, rfl⟩
abbrev main_v90 : Ref sig .tc := ⟨.hbm, 108, rfl⟩
abbrev main_call0_v0 : Ref sig .tc := ⟨.hbm, 109, rfl⟩
abbrev main_call0_c : Ref sig .tc := ⟨.hbm, 110, rfl⟩
abbrev main_call0_v1 : Ref sig .tc := ⟨.hbm, 111, rfl⟩
abbrev main_call0_v2 : Ref sig .tc := ⟨.hbm, 112, rfl⟩
abbrev main_call0_v3 : Ref sig .tc := ⟨.hbm, 113, rfl⟩
abbrev main_call0_v4 : Ref sig .tc := ⟨.hbm, 114, rfl⟩
abbrev main_call0_c_0 : Ref sig .tc := ⟨.hbm, 115, rfl⟩
abbrev main_call0_v5 : Ref sig .tc := ⟨.hbm, 116, rfl⟩
abbrev main_v91 : Ref sig .tc := ⟨.hbm, 117, rfl⟩
abbrev main_cst_12 : Ref sig .tc := ⟨.hbm, 118, rfl⟩
abbrev main_call1_v0 : Ref sig .tc := ⟨.hbm, 119, rfl⟩
abbrev main_call1_v1 : Ref sig .tc := ⟨.hbm, 120, rfl⟩
abbrev main_call1_v2 : Ref sig .tc := ⟨.hbm, 121, rfl⟩
abbrev main_v92 : Ref sig .tc := ⟨.hbm, 122, rfl⟩
abbrev main_cst_13 : Ref sig .tc := ⟨.hbm, 123, rfl⟩
abbrev main_v93 : Ref sig .tc := ⟨.hbm, 124, rfl⟩
abbrev main_cst_14 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_cst_15 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩

abbrev nD : Nat := 1
abbrev τ : Topo := Topo.v7x

variable {F : FTy → Type} [FloatOps F]
-- ==== Proof.Over.lean ====
module

public import Idealize.ShloMosaic.Lib.Pipeline.FrameBody
public import Idealize.ShloMosaic.Lib.Ring

/-! The contents a list of writes leaves over given contents. -/

@[expose] public section

noncomputable section

namespace Cert.Aux

open Idealize.ShloMosaic

variable {sig : RefSig} {κ : Kind} {sp : Space} {s : Shape} {e : EltTy} {Val : EltTy → Type}

/-- The writes `L` (last first) laid over the contents `X`. -/
def over (X : s.Idx → Val e) : List (View.Piece Val s e) → s.Idx → Val e
  | [] => X
  | p :: L => p.1.overlay (over X L) p.2

theorem over_nil (X : s.Idx → Val e) : over (Val := Val) X [] = X := rfl

theorem over_cons_emb (X : s.Idx → Val e) (r : Rect s) (w : r.shape.Idx → Val e) (L : List (View.Piece Val s e)) (x : r.shape.Idx) :
    over X (⟨r, w⟩ :: L) (r.emb x) = w x := r.overlay_emb _ _ x

theorem over_cons_of_not_mem (X : s.Idx → Val e) (p : View.Piece Val s e) (L : List (View.Piece Val s e)) {y : s.Idx}
    (h : y ∉ p.1.set) : over X (p :: L) y = over X L y := p.1.overlay_of_not_mem _ _ h

/-- What a view reads after writes is the writes over what it read before. -/
theorem read_writes_over (v : View sig κ sp s e) (f : v.ty.Contents Val) :
    ∀ L : List (View.Piece Val s e), v.read Val (v.writes Val f L) = over (v.read Val f) L
  | [] => rfl
  | p :: L => by
    funext y
    by_cases hy : y ∈ p.1.set
    · obtain ⟨r, w⟩ := p
      obtain ⟨x, rfl⟩ : ∃ x, r.emb x = y := r.exists_idx_of_mem hy
      rw [View.read_writes_cons_emb, over_cons_emb]
    · have hy' : y ∉ Finset.univ.map p.1.emb := by rwa [Rect.map_emb_univ]
      rw [View.writes_cons, View.read_slice_write_of_not_mem p.1 _ _ _ hy', over_cons_of_not_mem _ p L hy, ← read_writes_over v f L]

/-- Laid over the canonical contents of an earlier list, the writes are the canonical contents of both. -/
theorem over_canon [∀ e, Nonempty (Val e)] (L' : List (View.Piece Val s e)) :
    ∀ L : List (View.Piece Val s e), over (View.canon L') L = View.canon (L ++ L')
  | [] => rfl
  | p :: L => by
    show p.1.overlay (over (View.canon L') L) p.2 = p.1.overlay (View.canon (L ++ L')) p.2
    rw [over_canon L' L]

/-- A list whose last entry covers is covering. -/
theorem cover_append (L : List (View.Piece Val s e)) (p : View.Piece Val s e) (h : ∀ y, ∃ pc ∈ ([p] : List (View.Piece Val s e)), y ∈ pc.1.set) (y : s.Idx) :
    ∃ pc ∈ L ++ [p], y ∈ pc.1.set := by
  obtain ⟨pc, hm, hy⟩ := h y
  exact ⟨pc, List.mem_append_right _ hm, hy⟩

/-- A piece list read inside its last piece, -/
theorem canon_at [∀ e, Nonempty (Val e)] (r : Rect s) (w : r.shape.Idx → Val e) (L : List (View.Piece Val s e)) (x : r.shape.Idx)
    {y : s.Idx} (h : y = r.emb x) : View.canon (⟨r, w⟩ :: L) y = w x := by
  subst h; exact View.canon_cons_emb r w L x

/-- and off it; -/
theorem canon_off [∀ e, Nonempty (Val e)] (r : Rect s) (w : r.shape.Idx → Val e) (L : List (View.Piece Val s e)) {y : s.Idx}
    (h : y ∉ r.set) : View.canon (⟨r, w⟩ :: L) y = View.canon L y := View.canon_cons_of_not_mem ⟨r, w⟩ L h

/-- the same of writes over given contents. -/
theorem over_at (X : s.Idx → Val e) (r : Rect s) (w : r.shape.Idx → Val e) (L : List (View.Piece Val s e)) (x : r.shape.Idx)
    {y : s.Idx} (h : y = r.emb x) : over X (⟨r, w⟩ :: L) y = w x := by
  subst h; exact over_cons_emb X r w L x

theorem over_off (X : s.Idx → Val e) (r : Rect s) (w : r.shape.Idx → Val e) (L : List (View.Piece Val s e)) {y : s.Idx}
    (h : y ∉ r.set) : over X (⟨r, w⟩ :: L) y = over X L y := over_cons_of_not_mem X ⟨r, w⟩ L h

end Cert.Aux

end
-- ==== Proof.R0Body.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

/-! The body of the first call (layer norm, projection, rotary embedding) run on whole staging memrefs: what it leaves
in its output and in its scratch, in each of the three cases of its conditionals. -/

@[expose] public section

set_option maxRecDepth 16384

noncomputable section

namespace Cert.KernelIdeal.R0

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The conditions of the body's branches -/

/-- The first branch's condition: the column coordinate is zero. -/
abbrev cond0 (i : grid0.Coords) : Prop := (Scalar.cmpi .ne (Scalar.extui (Scalar.cmpi .eq (BitVec.ofNat 32 (i 1).val) 0#32)) 0#32) = 1#1
theorem hcond0 : ∀ t : Fin cfg0.N, cond0 (grid0.coords t) ↔ t.val % 3 = 0 :=
  (by decide +kernel : ∀ t : Fin grid0.N, cond0 (grid0.coords t) ↔ t.val % 3 = 0)
theorem hcond1 : ∀ t : Fin cfg0.N, k0_cond2 (grid0.coords t) = 1#1 ↔ t.val % 3 ≤ 1 :=
  (by decide +kernel : ∀ t : Fin grid0.N, k0_cond2 (grid0.coords t) = 1#1 ↔ t.val % 3 ≤ 1)
theorem hcond2 : ∀ t : Fin cfg0.N, k0_cond3 (grid0.coords t) = 1#1 ↔ t.val % 3 = 2 :=
  (by decide +kernel : ∀ t : Fin grid0.N, k0_cond3 (grid0.coords t) = 1#1 ↔ t.val % 3 = 2)
theorem hcond3 : ∀ t : Fin cfg0.N, k0_cond4 (grid0.coords t) = 1#1 ↔ t.val % 3 ≤ 1 :=
  (by decide +kernel : ∀ t : Fin grid0.N, k0_cond4 (grid0.coords t) = 1#1 ↔ t.val % 3 ≤ 1)
theorem hcond4 : ∀ t : Fin cfg0.N, k0_cond5 (grid0.coords t) = 1#1 ↔ t.val % 3 = 2 :=
  (by decide +kernel : ∀ t : Fin grid0.N, k0_cond5 (grid0.coords t) = 1#1 ↔ t.val % 3 = 2)

/-! ## What the body reads and writes -/

/-- The whole activation block. -/
abbrev rA : Rect S1024x2048 := Rect.unit (s := S1024x2048) ![0, 0] S1024x2048.size inb_S1024x2048_S1024x2048_0_0
/-- The left and the right half of the weight block's columns. -/
abbrev wLo : Rect S2048x2048 := Rect.unit (s := S2048x2048) ![0, 0] S2048x1024.size inb_S2048x2048_S2048x1024_0_0
abbrev wHi : Rect S2048x2048 := Rect.unit (s := S2048x2048) ![0, 1024] S2048x1024.size inb_S2048x2048_S2048x1024_0_1024
/-- The cosines and the sines. -/
abbrev csLo : Rect S1024x128 := Rect.unit (s := S1024x128) ![0, 0] S1024x64.size inb_S1024x128_S1024x64_0_0
abbrev csHi : Rect S1024x128 := Rect.unit (s := S1024x128) ![0, 64] S1024x64.size inb_S1024x128_S1024x64_0_64
/-- The left and the right half of the output block's columns. -/
abbrev oLo : Rect S1x1x1024x2048 := Rect.unit (s := S1x1x1024x2048) ![0, 0, 0, 0] S1x1x1024x1024.size inb_S1x1x1024x2048_S1x1x1024x1024_0_0_0_0
abbrev oHi : Rect S1x1x1024x2048 := Rect.unit (s := S1x1x1024x2048) ![0, 0, 0, 1024] S1x1x1024x1024.size inb_S1x1x1024x2048_S1x1x1024x1024_0_0_0_1024

/-- The normalised activations, from the block of the hidden states. -/
def xnOf (x0 : Vec F S1024x2048 .f32) : Vec F S1024x2048 .bf16 :=
  View.canon [⟨rA, k0_pay1 (View.ld x0 rA)⟩]

/-- The left half's projection. -/
def yLo (s : Vec F S1024x2048 .bf16) (x1 : Vec F S2048x2048 .bf16) : FVec F S1024x1024 .f32 := k0_pay2 (View.ld s rA) (View.ld x1 wLo)
/-- The right half's projection. -/
def yHi (s : Vec F S1024x2048 .bf16) (x1 : Vec F S2048x2048 .bf16) : FVec F S1024x1024 .f32 := k0_pay5 (View.ld s rA) (View.ld x1 wHi)

/-- A left half's rotated heads. -/
def ropeLo (y : FVec F S1024x1024 .f32) (a b : Vec F S1024x64 .f32) : FVec F S1x1x1024x1024 .bf16 :=
  k0_pay3 (k0_pay10 y a b) (k0_pay11 y a b) (k0_pay12 y a b) (k0_pay13 y a b) (k0_pay14 y a b) (k0_pay15 y a b) (k0_pay16 y a b) (k0_pay18 y a) (k0_pay19 y b)
/-- A right half's rotated heads. -/
def ropeHi (y : FVec F S1024x1024 .f32) (a b : Vec F S1024x64 .f32) : FVec F S1x1x1024x1024 .bf16 :=
  k0_pay6 (k0_pay22 y a b) (k0_pay23 y a b) (k0_pay24 y a b) (k0_pay25 y a b) (k0_pay26 y a b) (k0_pay27 y a b) (k0_pay28 y a b) (k0_pay30 y a) (k0_pay31 y b)

/-- The output block of the queries and of the keys. -/
def outRope (s : Vec F S1024x2048 .bf16) (x1 : Vec F S2048x2048 .bf16) (x2 : Vec F S1024x128 .f32) : Vec F S1x1x1024x2048 .bf16 :=
  View.canon [⟨oHi, ropeHi (yHi s x1) (View.ld x2 csLo) (View.ld x2 csHi)⟩, ⟨oLo, ropeLo (yLo s x1) (View.ld x2 csLo) (View.ld x2 csHi)⟩]

/-- The output block of the values. -/
def outPlain (s : Vec F S1024x2048 .bf16) (x1 : Vec F S2048x2048 .bf16) : Vec F S1x1x1024x2048 .bf16 :=
  View.canon [⟨oHi, k0_pay7 (View.ld s rA) (View.ld x1 wHi)⟩, ⟨oLo, k0_pay4 (View.ld s rA) (View.ld x1 wLo)⟩]

theorem coverA (p : Vec F S1024x2048 .bf16) (y : S1024x2048.Idx) :
    ∃ pc ∈ ([⟨rA, p⟩] : List (View.Piece (Elt F) S1024x2048 .bf16)), y ∈ pc.1.set :=
  View.cover_of_tiled [⟨rA, p⟩] S1024x2048.size (by rfl) y

theorem coverO (p q : Vec F S1x1x1024x1024 .bf16) (y : S1x1x1024x2048.Idx) :
    ∃ pc ∈ ([⟨oHi, p⟩, ⟨oLo, q⟩] : List (View.Piece (Elt F) S1x1x1024x2048 .bf16)), y ∈ pc.1.set :=
  View.cover_of_tiledL [⟨oHi, p⟩, ⟨oLo, q⟩] S1x1x1024x1024.size (by rfl) y

/-! ## The three cases -/

set_option maxHeartbeats 1000000 in
/-- A later column of queries or keys: the scratch is read, the output is the rotated projection. -/
theorem sound_B (c : Dev nD) (E : Set ℕ) (i : grid0.Coords) (arg2 : Memref sig .tc .vmem S1024x2048 .f32) (harg2 : arg2.IsWhole) (arg3 : Memref sig .tc .vmem S2048x2048 .bf16) (harg3 : arg3.IsWhole) (arg4 : Memref sig .tc .vmem S1024x128 .f32) (harg4 : arg4.IsWhole) (arg5 : Memref sig .tc .vmem S1x1x1024x2048 .bf16) (harg5 : arg5.IsWhole) (arg6 : Memref sig .tc .vmem S1024x2048 .bf16) (harg6 : arg6.IsWhole)
    (hc0 : ¬ cond0 i) (hc1 : k0_cond2 i = 1#1) (hc2 : ¬ k0_cond3 i = 1#1) (hc3 : k0_cond4 i = 1#1) (hc4 : ¬ k0_cond5 i = 1#1)
    (x1 : Vec F S2048x2048 .bf16) (x2 : Vec F S1024x128 .f32) (s : Vec F S1024x2048 .bf16) (K : PUnit → sProp 𝕄) :
    iprop(owns (c : Thread nD τ) arg3 fullShare x1 ∗ owns (c : Thread nD τ) arg4 fullShare x2 ∗ (∃ d, owns (c : Thread nD τ) arg5 fullShare d) ∗ owns (c : Thread nD τ) arg6 fullShare s
        ∗ (iprop(owns (c : Thread nD τ) arg3 fullShare x1 ∗ owns (c : Thread nD τ) arg4 fullShare x2 ∗ owns (c : Thread nD τ) arg5 fullShare (outRope s x1 x2) ∗ owns (c : Thread nD τ) arg6 fullShare s) -∗ K ⟨⟩))
      ⊢ wp frame (wpE (defs₀ (F := F)) Variants.none c none) E (cc0_ln_qkv_rope i arg2 harg2 arg3 harg3 arg4 harg4 arg5 harg5 arg6 harg6) K := by
  simp only [cc0_ln_qkv_rope_eq_skeleton]; unfold cc0_ln_qkv_rope_skel
  simp only [k0_part1_eq_skeleton, k0_part2_eq_skeleton]
  unfold owns
  iintro ⟨⟨%f1, %hf1, H1⟩, ⟨%f2, %hf2, H2⟩, ⟨%d3, %f3, -, H3⟩, ⟨%f4, %hf4, H4⟩, Hk⟩
  subst hf1 hf2 hf4
  sl_exec (disch := first | sl_exact hc0 | sl_exact hc1 | sl_exact hc2 | sl_exact hc3 | sl_exact hc4)
  sl_step
  iapply Hk
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (View.read_writes_eq_canon _ _ _ (coverO _ _)).trans ?_
    dsimp only [sound_B.sl.r, sound_B.sl.r_1, sound_B.sl.r_2, sound_B.sl.r_3, sound_B.sl.r_4, sound_B.sl.r_5, sound_B.sl.r_6, sound_B.sl.r_7, sound_B.sl.r_8, sound_B.sl.r_9, sound_B.sl.r_10, sound_B.sl.r_11, sound_B.sl.r_12, sound_B.sl.r_13, sound_B.sl.r_14, sound_B.sl.r_15, sound_B.sl.r_16, sound_B.sl.r_17]
    rfl
  iexists f4; isplitr; · ipureintro; rfl
  iexact H4

set_option maxHeartbeats 1000000 in
/-- The column of the values: the scratch is read, the output is the projection. -/
theorem sound_C (c : Dev nD) (E : Set ℕ) (i : grid0.Coords) (arg2 : Memref sig .tc .vmem S1024x2048 .f32) (harg2 : arg2.IsWhole) (arg3 : Memref sig .tc .vmem S2048x2048 .bf16) (harg3 : arg3.IsWhole) (arg4 : Memref sig .tc .vmem S1024x128 .f32) (harg4 : arg4.IsWhole) (arg5 : Memref sig .tc .vmem S1x1x1024x2048 .bf16) (harg5 : arg5.IsWhole) (arg6 : Memref sig .tc .vmem S1024x2048 .bf16) (harg6 : arg6.IsWhole)
    (hc0 : ¬ cond0 i) (hc1 : ¬ k0_cond2 i = 1#1) (hc2 : k0_cond3 i = 1#1) (hc3 : ¬ k0_cond4 i = 1#1) (hc4 : k0_cond5 i = 1#1)
    (x1 : Vec F S2048x2048 .bf16) (s : Vec F S1024x2048 .bf16) (K : PUnit → sProp 𝕄) :
    iprop(owns (c : Thread nD τ) arg3 fullShare x1 ∗ (∃ d, owns (c : Thread nD τ) arg5 fullShare d) ∗ owns (c : Thread nD τ) arg6 fullShare s
        ∗ (iprop(owns (c : Thread nD τ) arg3 fullShare x1 ∗ owns (c : Thread nD τ) arg5 fullShare (outPlain s x1) ∗ owns (c : Thread nD τ) arg6 fullShare s) -∗ K ⟨⟩))
      ⊢ wp frame (wpE (defs₀ (F := F)) Variants.none c none) E (cc0_ln_qkv_rope i arg2 harg2 arg3 harg3 arg4 harg4 arg5 harg5 arg6 harg6) K := by
  simp only [cc0_ln_qkv_rope_eq_skeleton]; unfold cc0_ln_qkv_rope_skel
  simp only [k0_part1_eq_skeleton, k0_part2_eq_skeleton]
  unfold owns
  iintro ⟨⟨%f1, %hf1, H1⟩, ⟨%d3, %f3, -, H3⟩, ⟨%f4, %hf4, H4⟩, Hk⟩
  subst hf1 hf4
  sl_exec (disch := first | sl_exact hc0 | sl_exact hc1 | sl_exact hc2 | sl_exact hc3 | sl_exact hc4)
  sl_step
  iapply Hk
  isplitl [H1]
  · iexists f1; isplitr; · ipureintro; rfl
    iexact H1
  isplitl [H3]
  · iexists _; isplitr
    swap; · iexact H3
    ipureintro
    exact View.read_writes_eq_canon _ _ _ (coverO _ _)
  iexists f4; isplitr; · ipureintro; rfl
  iexact H4

set_option maxHeartbeats 1000000 in
/-- The first column: the activations are normalised into the scratch and the output is their rotated projection. -/
theorem sound_A (c : Dev nD) (E : Set ℕ) (i : grid0.Coords) (arg2 : Memref sig .tc .vmem S1024x2048 .f32) (harg2 : arg2.IsWhole) (arg3 : Memref sig .tc .vmem S2048x2048 .bf16) (harg3 : arg3.IsWhole) (arg4 : Memref sig .tc .vmem S1024x128 .f32) (harg4 : arg4.IsWhole) (arg5 : Memref sig .tc .vmem S1x1x1024x2048 .bf16) (harg5 : arg5.IsWhole) (arg6 : Memref sig .tc .vmem S1024x2048 .bf16) (harg6 : arg6.IsWhole)
    (hc0 : cond0 i) (hc1 : k0_cond2 i = 1#1) (hc2 : ¬ k0_cond3 i = 1#1) (hc3 : k0_cond4 i = 1#1) (hc4 : ¬ k0_cond5 i = 1#1)
    (x0 : Vec F S1024x2048 .f32) (x1 : Vec F S2048x2048 .bf16) (x2 : Vec F S1024x128 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare (outRope (xnOf x0) x1 x2) ∗ owns (c : Thread nD τ) arg6 fullShare (xnOf x0)) -∗ K ⟨⟩))
      ⊢ wp frame (wpE (defs₀ (F := F)) Variants.none c none) E (cc0_ln_qkv_rope i arg2 harg2 arg3 harg3 arg4 harg4 arg5 harg5 arg6 harg6) K := by
  simp only [cc0_ln_qkv_rope_eq_skeleton]; unfold cc0_ln_qkv_rope_skel
  simp only [k0_part1_eq_skeleton, k0_part2_eq_skeleton]
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec (disch := first | sl_exact hc0 | sl_exact hc1 | sl_exact hc2 | sl_exact hc3 | sl_exact hc4)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  have hx : View.read (Elt F) arg6.view (View.writes arg6.view (Elt F) f4 [⟨rA, k0_pay1 (View.ld (View.read (Elt F) arg2.view f0) rA)⟩])
      = xnOf (View.read (Elt F) arg2.view f0) := View.read_writes_eq_canon _ _ _ (coverA _)
  isplitl [H3]
  · iexists _; isplitr
    swap; · iexact H3
    ipureintro
    refine (View.read_writes_eq_canon _ _ _ (coverO _ _)).trans ?_
    dsimp only [sound_A.sl.r, sound_A.sl.r_1, sound_A.sl.r_2, sound_A.sl.r_3, sound_A.sl.r_4, sound_A.sl.r_5, sound_A.sl.r_6, sound_A.sl.r_7, sound_A.sl.r_8, sound_A.sl.r_9, sound_A.sl.r_10, sound_A.sl.r_11, sound_A.sl.r_12, sound_A.sl.r_13, sound_A.sl.r_14, sound_A.sl.r_15, sound_A.sl.r_16, sound_A.sl.r_17]
    have hv : sound_A.sl.v3 c arg2 arg6 f0 = View.ld (xnOf (View.read (Elt F) arg2.view f0)) rA := by
      unfold sound_A.sl.v3
      exact View.readCov_eq_canon_ld _ _ _ (coverA _)
    rw [hv]
    rfl
  iexists _; isplitr
  swap; · iexact H4
  ipureintro
  exact hx

end Cert.KernelIdeal.R0

end
-- ==== Proof.R0Dat.lean ====
module

public import proofs.«01_k».proof.Proof.R0Body

/-! The first call's proof data over any contents `V` of the buffers it is entered with, and its body obligation. -/

@[expose] public section

set_option maxRecDepth 16384

noncomputable section

namespace Cert.KernelIdeal.R0

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at point `t`. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The normalised activations the scratch holds after point `t`. -/
def xnAt (c : Dev nD) (t : Fin cfg0.N) : Vec F S1024x2048 .bf16 := xnOf (iblk V c 0 t)

/-- What the body leaves in its output's buffer at point `t`. -/
def outAt (c : Dev nD) (t : Fin cfg0.N) : Vec F S1x1x1024x2048 .bf16 :=
  if t.val % 3 ≤ 1 then outRope (xnAt V c t) (iblk V c 1 t) (iblk V c 2 t) else outPlain (xnAt V c t) (iblk V c 1 t)

/-- The scoped buffers no window stages: the scratch, and the rest. -/
theorem rest_split : ∃ T : Dev nD → sProp 𝕄, ∀ c : Dev nD, (Pipeline.scopedRest spec0 c : sProp 𝕄)
    = iprop((∃ d, owns (c : Thread nD τ) (Memref.whole cc0_scratch0 : Memref sig .tc .vmem S1024x2048 .bf16) fullShare d) ∗ T c) :=
  ⟨_, fun c => by rw [scopedRest0_eq]; simp only [owns_whole]; rfl⟩

/-- The rest. -/
def rest (c : Dev nD) : sProp 𝕄 := rest_split.choose c

theorem rest_eq (c : Dev nD) : (Pipeline.scopedRest spec0 c : sProp 𝕄)
    = iprop((∃ d, owns (c : Thread nD τ) (Memref.whole cc0_scratch0 : Memref sig .tc .vmem S1024x2048 .bf16) fullShare d) ∗ rest c) :=
  rest_split.choose_spec c

/-- Before point `n` the scratch holds the normalised activations of the row block of the point before, unless that
    block is done. -/
def inv (c : Dev nD) (n : ℕ) (s : Vec F S1024x2048 .bf16) : Prop :=
  n % 3 ≠ 0 → ∀ t : Fin cfg0.N, t.val + 1 = n → s = xnAt V c t

def PhiS (c : Dev nD) (n : ℕ) : sProp 𝕄 :=
  iprop((∃ s, ⌜inv V c n s⌝ ∗ owns (c : Thread nD τ) (Memref.whole cc0_scratch0 : Memref sig .tc .vmem S1024x2048 .bf16) fullShare s) ∗ rest c)

/-- The first call's proof data. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => outAt V c t
  Φ t := PhiS V c t.val
  q _ := fullShare
  owed _ := 0

theorem A_eq (c : Dev nD) (w : Fin cfg0.W) : (dat V c).A w = V c (Pipeline.arrRef spec0 w) := by
  dsimp only [dat]
theorem after0 (c : Dev nD) (t : Fin cfg0.N) : (dat V c).after 0 t = iblk V c 0 t := by dsimp only [dat]
theorem after1 (c : Dev nD) (t : Fin cfg0.N) : (dat V c).after 1 t = iblk V c 1 t := by dsimp only [dat]
theorem after2 (c : Dev nD) (t : Fin cfg0.N) : (dat V c).after 2 t = iblk V c 2 t := by dsimp only [dat]
theorem after3 (c : Dev nD) (t : Fin cfg0.N) : (dat V c).after 3 t = outAt V c t := by dsimp only [dat]

theorem before0 (c : Dev nD) (t : Fin cfg0.N) (d) : (dat V c).before 0 t d = iblk V c 0 t :=
  before0_of V (dat V c) (A_eq V c 0) (after0 V c) t d
theorem before1 (c : Dev nD) (t : Fin cfg0.N) (d) : (dat V c).before 1 t d = iblk V c 1 t :=
  before1_of V (dat V c) (A_eq V c 1) (after1 V c) t d
theorem before2 (c : Dev nD) (t : Fin cfg0.N) (d) : (dat V c).before 2 t d = iblk V c 2 t :=
  before2_of V (dat V c) (A_eq V c 2) (after2 V c) t d

theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl
theorem live3 : ∀ t : Fin cfg0.N, cfg0.idle 3 (grid0.coords t) = false :=
  (by decide +kernel : ∀ t : Fin cfg0.N, cfg0.idle 3 (grid0.coords t) = false)

theorem fetched0 (c : Dev nD) (t : Fin cfg0.N) (d) : (dat V c).fetched 0 t d = iblk V c 0 t := by
  unfold Dat.fetched Dat.blockOf iblk; rw [A_eq]; try rfl

/-- The row block of hidden states is the same at the points of one row. -/
theorem iblk_row (c : Dev nD) (t u : Fin cfg0.N) (h : t.val + 1 = u.val) (hu : u.val % 3 ≠ 0) : iblk V c 0 t = iblk V c 0 u := by
  have key : ∀ t u : Fin cfg0.N, t.val + 1 = u.val → u.val % 3 ≠ 0 → (cfg0.win 0).index t = (cfg0.win 0).index u := by
    decide +kernel
  have d : (cfg0.win 0).block.Idx → Elt F (cfg0.win 0).elt := iblk V c 0 t
  exact (fetched0 V c t d).symm.trans (((dat V c).fetched_congr 0 (key t u h hu) rfl d).trans (fetched0 V c u d))

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 1600000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2]
  rw [show (dat V c).owesAt () t.succ = (dat V c).owesAt () t.castSucc from rfl,
    show (dat V c).Φ t.castSucc = PhiS V c t.val from rfl, show (dat V c).Φ t.succ = PhiS V c (t.val + 1) from rfl]
  rw [show (dat V c).leavesExact 0 t = owns (c : Thread nD τ) (st0_0 t) fullShare ((dat V c).after 0 t) from by
      unfold Dat.leavesExact; rw [live0 t], after0,
    show (dat V c).leavesExact 1 t = owns (c : Thread nD τ) (st0_1 t) fullShare ((dat V c).after 1 t) from by
      unfold Dat.leavesExact; rw [live1 t], after1,
    show (dat V c).leavesExact 2 t = owns (c : Thread nD τ) (st0_2 t) fullShare ((dat V c).after 2 t) from by
      unfold Dat.leavesExact; rw [live2 t], after2,
    show (dat V c).leavesExact 3 t = owns (c : Thread nD τ) (st0_3 t) fullShare ((dat V c).after 3 t) from by
      unfold Dat.leavesExact; rw [live3 t], after3]
  unfold PhiS
  have hN : t.val < 12 := lt_of_lt_of_eq t.isLt (show cfg0.N = 12 from N_0)
  have hinv : inv V c (t.val + 1) (xnAt V c t) := fun _ u hu => by
    rw [show u = t from Fin.ext (by omega)]
  iintro ⟨⟨⟨%s, %hs, HS⟩, Hg⟩, Ho, ⟨%d0, H0⟩, ⟨%d1, H1⟩, ⟨%d2, H2⟩, ⟨%d3, H3⟩⟩
  by_cases h0 : t.val % 3 = 0
  · rw [show outAt V c t = outRope (xnOf (iblk V c 0 t)) (iblk V c 1 t) (iblk V c 2 t) from if_pos (by omega)]
    iapply (sound_A c Set.univ (grid0.coords t) _ _ _ _ _ _ _ _ _ _ ((hcond0 t).mpr h0) ((hcond1 t).mpr (by omega)) (fun h => by have := (hcond2 t).mp h; omega)
      ((hcond3 t).mpr (by omega)) (fun h => by have := (hcond4 t).mp h; omega) (iblk V c 0 t) (iblk V c 1 t) (iblk V c 2 t) _)
    isplitl [H0]; · iexact H0
    isplitl [H1]; · iexact H1
    isplitl [H2]; · iexact H2
    isplitl [H3]; · iexists _; iexact H3
    isplitl [HS]; · iexists _; iexact HS
    iintro ⟨H0, H1, H2, H3, HS⟩
    isplitl [HS Hg]
    · isplitl [HS]
      · iexists _; isplitr; · ipureintro; exact hinv
        iexact HS
      iexact Hg
    isplitl [Ho]; · iexact Ho
    isplitl [H0]; · iexact H0
    isplitl [H1]; · iexact H1
    isplitl [H2]; · iexact H2
    iexact H3
  · have hs' : s = xnAt V c t := by
      have := hs h0 ⟨t.val - 1, by omega⟩ (by simp only []; omega)
      rw [this]; unfold xnAt
      rw [iblk_row V c ⟨t.val - 1, by omega⟩ t (by simp only []; omega) h0]
    subst hs'
    by_cases h1 : t.val % 3 ≤ 1
    · rw [show outAt V c t = outRope (xnAt V c t) (iblk V c 1 t) (iblk V c 2 t) from if_pos h1]
      iapply (sound_B c Set.univ (grid0.coords t) _ _ _ _ _ _ _ _ _ _ (fun h => h0 ((hcond0 t).mp h)) ((hcond1 t).mpr (by omega)) (fun h => by have := (hcond2 t).mp h; omega)
        ((hcond3 t).mpr (by omega)) (fun h => by have := (hcond4 t).mp h; omega) (iblk V c 1 t) (iblk V c 2 t) (xnAt V c t) _)
      isplitl [H1]; · iexact H1
      isplitl [H2]; · iexact H2
      isplitl [H3]; · iexists _; iexact H3
      isplitl [HS]; · iexact HS
      iintro ⟨H1, H2, H3, HS⟩
      isplitl [HS Hg]
      · isplitl [HS]
        · iexists _; isplitr; · ipureintro; exact hinv
          iexact HS
        iexact Hg
      isplitl [Ho]; · iexact Ho
      isplitl [H0]; · iexact H0
      isplitl [H1]; · iexact H1
      isplitl [H2]; · iexact H2
      iexact H3
    · rw [show outAt V c t = outPlain (xnAt V c t) (iblk V c 1 t) from if_neg h1]
      iapply (sound_C c Set.univ (grid0.coords t) _ _ _ _ _ _ _ _ _ _ (fun h => h0 ((hcond0 t).mp h)) (fun h => by have := (hcond1 t).mp h; omega) ((hcond2 t).mpr (by omega))
        (fun h => by have := (hcond3 t).mp h; omega) ((hcond4 t).mpr (by omega)) (iblk V c 1 t) (xnAt V c t) _)
      isplitl [H1]; · iexact H1
      isplitl [H3]; · iexists _; iexact H3
      isplitl [HS]; · iexact HS
      iintro ⟨H1, H3, HS⟩
      isplitl [HS Hg]
      · isplitl [HS]
        · iexists _; isplitr; · ipureintro; exact hinv
          iexact HS
        iexact Hg
      isplitl [Ho]; · iexact Ho
      isplitl [H0]; · iexact H0
      isplitl [H1]; · iexact H1
      isplitl [H2]; · iexact H2
      iexact H3

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dat (F := F) V c) (defs₀ (F := F)) Variants.none () Set.univ := fun t => by
  rw [bigSep_W0, bigSep_W0, defs₀_row]
  exact triple_restated (sound_body V c t) rfl .rfl fun _ => .rfl

/-- Before the first point the invariant asks nothing of the scratch; -/
theorem hin (c : Dev nD) : (Pipeline.scopedRest spec0 c : sProp 𝕄) ⊢ (dat V c).Φ 0 := by
  rw [show (dat V c).Φ 0 = PhiS V c 0 from rfl, rest_eq]
  unfold PhiS
  iintro ⟨⟨%d, H⟩, Hr⟩
  isplitl [H]
  · iexists d; isplitr; · ipureintro; exact fun h => absurd rfl h
    iexact H
  iexact Hr

/-- after the last it gives the scratch back. -/
theorem hout (c : Dev nD) : (dat V c).Φ (Fin.last _) ⊢ (Pipeline.scopedRest spec0 c : sProp 𝕄) := by
  rw [show (dat V c).Φ (Fin.last _) = PhiS V c (Fin.last cfg0.N).val from rfl, rest_eq]
  unfold PhiS
  iintro ⟨⟨%s, -, H⟩, Hr⟩
  isplitl [H]
  · iexists s; iexact H
  iexact Hr

end Cert.KernelIdeal.R0

end
-- ==== Proof.R1Body.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import proofs.«01_k».proof.Proof.Over

/-! The body of the second call (causal attention) run on whole staging memrefs: what it leaves in its output and in
its three scratch buffers, in each of the cases of its conditionals. -/

@[expose] public section

set_option maxRecDepth 16384

noncomputable section

namespace Cert.KernelIdeal.R1

open Cert.KernelIdeal.Gen Cert.Aux
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The conditions of the body's branches -/

/-- The first branch's condition: every coordinate is zero. -/
abbrev cond0 (i : grid1.Coords) : Prop :=
  (Scalar.cmpi .ne (Scalar.extui (Scalar.andi (Scalar.cmpi .eq (BitVec.ofNat 32 (i 0).val) 0#32) (Scalar.andi (Scalar.cmpi .eq (BitVec.ofNat 32 (i 1).val) 0#32) (Scalar.cmpi .eq (BitVec.ofNat 32 (i 2).val) 0#32)))) 0#32) = 1#1
theorem hcond0 : ∀ t : Fin cfg1.N, cond0 (grid1.coords t) ↔ t.val = 0 :=
  (by decide +kernel : ∀ t : Fin grid1.N, cond0 (grid1.coords t) ↔ t.val = 0)
theorem hcond1 : ∀ t : Fin cfg1.N, k1_cond2 (grid1.coords t) = 1#1 ↔ 2 * (t.val % 2) + 2 ≤ t.val / 2 % 4 :=
  (by decide +kernel : ∀ t : Fin grid1.N, k1_cond2 (grid1.coords t) = 1#1 ↔ 2 * (t.val % 2) + 2 ≤ t.val / 2 % 4)
theorem hcond2 : ∀ t : Fin cfg1.N, k1_cond3 (grid1.coords t) = 1#1 ↔ t.val % 2 = t.val / 2 % 4 / 2 :=
  (by decide +kernel : ∀ t : Fin grid1.N, k1_cond3 (grid1.coords t) = 1#1 ↔ t.val % 2 = t.val / 2 % 4 / 2)

/-! ## What the body reads and writes -/

abbrev rQ : Rect S1x1x512x128 := Rect.unit (s := S1x1x512x128) ![0, 0, 0, 0] S1x1x512x128.size inb_S1x1x512x128_S1x1x512x128_0_0_0_0
/-- The first and the second chunk of a block of keys or values. -/
abbrev rLo : Rect S1x1x1024x128 := Rect.unit (s := S1x1x1024x128) ![0, 0, 0, 0] S1x1x512x128.size inb_S1x1x1024x128_S1x1x512x128_0_0_0_0
abbrev rHi : Rect S1x1x1024x128 := Rect.unit (s := S1x1x1024x128) ![0, 0, 512, 0] S1x1x512x128.size inb_S1x1x1024x128_S1x1x512x128_0_0_512_0
abbrev rS : Rect S4x512x128 := Rect.unit (s := S4x512x128) ![0, 0, 0] S4x512x128.size inb_S4x512x128_S4x512x128_0_0_0
abbrev rO : Rect S1x512x128 := Rect.unit (s := S1x512x128) ![0, 0, 0] S1x512x128.size inb_S1x512x128_S1x512x128_0_0_0

/-- The diagonal block's number, as the body computes it. -/
abbrev dkb (i : grid1.Coords) : BitVec 32 :=
  Scalar.select (Scalar.andi (Scalar.cmpi .ne (Scalar.subi (Scalar.extui (Scalar.cmpi .sgt (BitVec.ofNat 32 (i 1).val) 0#32)) (Scalar.extui (Scalar.cmpi .slt (BitVec.ofNat 32 (i 1).val) 0#32)))
      (Scalar.subi (Scalar.extui (Scalar.cmpi .sgt 2#32 0#32)) (Scalar.extui (Scalar.cmpi .slt 2#32 0#32))))
    (Scalar.cmpi .ne (Scalar.remsi (BitVec.ofNat 32 (i 1).val) 2#32) 0#32))
    (Scalar.subi (Scalar.divsi (BitVec.ofNat 32 (i 1).val) 2#32) 1#32) (Scalar.divsi (BitVec.ofNat 32 (i 1).val) 2#32)

/-- The slot a chunk before the diagonal is stored in. -/
abbrev rD (i : grid1.Coords) (h : k1_cond2 i = 1#1) : Fin 2 → Rect S4x512x128 := fun r =>
  Rect.unit (s := S4x512x128) (k1_off1 i (BitVec.ofNat 32 r.val)) S1x512x128.size (k1_off1_inb i h r)
/-- The slot a chunk of the diagonal block is stored in. -/
abbrev rC (i : grid1.Coords) (h : k1_cond3 i = 1#1) : Fin 2 → Rect S4x512x128 := fun r =>
  Rect.unit (s := S4x512x128) (k1_off2 i (BitVec.ofNat 32 r.val)) S1x512x128.size (k1_off2_inb i h r)

section
variable (i : grid1.Coords) (x0 : Vec F S1x1x512x128 .bf16) (x1 x2 : Vec F S1x1x1024x128 .bf16)

/-- The stores of an unmasked block, into the weighted sums, the row maxima and the row sums. -/
def DP (h : k1_cond2 i = 1#1) : List (View.Piece (Elt F) S4x512x128 .f32) :=
  [⟨rD i h 1, k1_pay16 (k1_pay5 (View.ld x0 rQ)) (View.ld x1 rHi) (View.ld x2 rHi)⟩, ⟨rD i h 0, k1_pay9 (View.ld x0 rQ) (View.ld x1 rLo) (View.ld x2 rLo)⟩]
def DM (h : k1_cond2 i = 1#1) : List (View.Piece (Elt F) S4x512x128 .f32) :=
  [⟨rD i h 1, k1_pay17 (k1_pay5 (View.ld x0 rQ)) (View.ld x1 rHi)⟩, ⟨rD i h 0, k1_pay10 (View.ld x0 rQ) (View.ld x1 rLo)⟩]
def DL (h : k1_cond2 i = 1#1) : List (View.Piece (Elt F) S4x512x128 .f32) :=
  [⟨rD i h 1, k1_pay18 (k1_pay5 (View.ld x0 rQ)) (View.ld x1 rHi)⟩, ⟨rD i h 0, k1_pay12 (k1_pay11 (View.ld x0 rQ) (View.ld x1 rLo))⟩]

/-- The masked scores of the diagonal block's second chunk, and their row maxima. -/
def sHi : FVec F S512x512 .f32 := k1_pay29 (BitVec.ofNat 32 (i 1).val) (BitVec.ofNat 32 (i 2).val) (k1_pay19 (View.ld x0 rQ)) (View.ld x1 rHi)
def mHi : FVec F S512 .f32 := k1_pay30 (BitVec.ofNat 32 (i 1).val) (BitVec.ofNat 32 (i 2).val) (k1_pay19 (View.ld x0 rQ)) (View.ld x1 rHi)

/-- The stores of the masked block, into the weighted sums, the row maxima and the row sums. -/
def CP (h : k1_cond3 i = 1#1) : List (View.Piece (Elt F) S4x512x128 .f32) :=
  [⟨rC i h 1, k1_pay33 (k1_pay28 (View.ld x2 rHi)) (sHi i x0 x1) (mHi i x0 x1)⟩,
   ⟨rC i h 0, k1_pay25 (k1_pay24 (BitVec.ofNat 32 (i 1).val) (BitVec.ofNat 32 (i 2).val) (View.ld x0 rQ) (View.ld x1 rLo) (View.ld x2 rLo))⟩]
def CM (h : k1_cond3 i = 1#1) : List (View.Piece (Elt F) S4x512x128 .f32) :=
  [⟨rC i h 1, k1_pay34 (mHi i x0 x1)⟩,
   ⟨rC i h 0, k1_pay26 (k1_pay21 (BitVec.ofNat 32 (i 1).val) (BitVec.ofNat 32 (i 2).val) (View.ld x0 rQ) (View.ld x1 rLo))⟩]
def CL (h : k1_cond3 i = 1#1) : List (View.Piece (Elt F) S4x512x128 .f32) :=
  [⟨rC i h 1, k1_pay35 (sHi i x0 x1) (mHi i x0 x1)⟩,
   ⟨rC i h 0, k1_pay27 (k1_pay23 (BitVec.ofNat 32 (i 1).val) (BitVec.ofNat 32 (i 2).val) (View.ld x0 rQ) (View.ld x1 rLo))⟩]
end

/-- A slot's first lane, and a whole slot. -/
abbrev e0 : Rect S4x512x128 := Rect.unit (s := S4x512x128) ![0, 0, 0] S1x512x1.size inb_S4x512x128_S1x512x1_0_0_0
abbrev g0 : Rect S4x512x128 := Rect.unit (s := S4x512x128) ![0, 0, 0] S1x512x128.size inb_S4x512x128_S1x512x128_0_0_0
abbrev e1 : Rect S4x512x128 := Rect.unit (s := S4x512x128) ![1, 0, 0] S1x512x1.size inb_S4x512x128_S1x512x1_1_0_0
abbrev g1 : Rect S4x512x128 := Rect.unit (s := S4x512x128) ![1, 0, 0] S1x512x128.size inb_S4x512x128_S1x512x128_1_0_0
abbrev e2 : Rect S4x512x128 := Rect.unit (s := S4x512x128) ![2, 0, 0] S1x512x1.size inb_S4x512x128_S1x512x1_2_0_0
abbrev g2 : Rect S4x512x128 := Rect.unit (s := S4x512x128) ![2, 0, 0] S1x512x128.size inb_S4x512x128_S1x512x128_2_0_0
abbrev e3 : Rect S4x512x128 := Rect.unit (s := S4x512x128) ![3, 0, 0] S1x512x1.size inb_S4x512x128_S1x512x1_3_0_0
abbrev g3 : Rect S4x512x128 := Rect.unit (s := S4x512x128) ![3, 0, 0] S1x512x128.size inb_S4x512x128_S1x512x128_3_0_0

/-- The slots merged. -/
def mergeOf (d : BitVec 32) (P M L : Vec F S4x512x128 .f32) : FVec F S1x512x128 .bf16 :=
  k1_pay4 (k1_pay39 d (View.ld M e3)) (k1_pay40 d (k1_pay36 d (View.ld M e0)) (k1_pay37 d (View.ld M e1)) (Scalar.cmpi .sge d 1#32) (View.ld M e2) (View.ld M e3))
    (k1_pay42 d (k1_pay36 d (View.ld M e0)) (k1_pay37 d (View.ld M e1)) (Scalar.cmpi .sge d 1#32) (View.ld M e2) (View.ld M e3) (View.ld P g0) (View.ld P g1))
    (k1_pay43 d (k1_pay36 d (View.ld M e0)) (k1_pay37 d (View.ld M e1)) (Scalar.cmpi .sge d 1#32) (View.ld M e2) (View.ld M e3) (View.ld L e0) (View.ld L e1))
    (k1_pay44 d (k1_pay36 d (View.ld M e0)) (k1_pay37 d (View.ld M e1)) (Scalar.cmpi .sge d 1#32) (View.ld M e2) (View.ld M e3)) (k1_pay45 (View.ld P g2))
    (k1_pay46 d (k1_pay36 d (View.ld M e0)) (k1_pay37 d (View.ld M e1)) (Scalar.cmpi .sge d 1#32) (View.ld M e2) (View.ld M e3)) (View.ld L e2) (View.ld P g3) (View.ld L e3)

/-- The output block. -/
def outOf (i : grid1.Coords) (P M L : Vec F S4x512x128 .f32) : Vec F S1x512x128 .bf16 :=
  View.canon [⟨rO, mergeOf (dkb i) P M L⟩]

theorem coverO (p : Vec F S1x512x128 .bf16) (y : S1x512x128.Idx) :
    ∃ pc ∈ ([⟨rO, p⟩] : List (View.Piece (Elt F) S1x512x128 .bf16)), y ∈ pc.1.set :=
  View.cover_of_tiled [⟨rO, p⟩] S1x512x128.size (by rfl) y

theorem coverS (p : Vec F S4x512x128 .f32) (y : S4x512x128.Idx) :
    ∃ pc ∈ ([⟨rS, p⟩] : List (View.Piece (Elt F) S4x512x128 .f32)), y ∈ pc.1.set :=
  View.cover_of_tiled [⟨rS, p⟩] S4x512x128.size (by rfl) y

/-! ## The cases -/

/-- What the first point initialises the scratch with. -/
def p0 : Vec F S4x512x128 .f32 := View.canon [⟨rS, k1_pay1 (F := F)⟩]
def m0 : Vec F S4x512x128 .f32 := View.canon [⟨rS, k1_pay2 (F := F)⟩]
def l0 : Vec F S4x512x128 .f32 := View.canon [⟨rS, k1_pay3 (F := F)⟩]

set_option maxHeartbeats 1000000 in
/-- A block of keys before the diagonal one: its two chunks' parts are stored in their slots. -/
theorem sound_D (c : Dev nD) (E : Set ℕ) (i : grid1.Coords) (arg3 : Memref sig .tc .vmem S1x1x512x128 .bf16) (harg3 : arg3.IsWhole) (arg4 : Memref sig .tc .vmem S1x1x1024x128 .bf16) (harg4 : arg4.IsWhole) (arg5 : Memref sig .tc .vmem S1x1x1024x128 .bf16) (harg5 : arg5.IsWhole) (arg6 : Memref sig .tc .vmem S1x512x128 .bf16) (harg6 : arg6.IsWhole) (arg7 : Memref sig .tc .vmem S4x512x128 .f32) (harg7 : arg7.IsWhole) (arg8 : Memref sig .tc .vmem S4x512x128 .f32) (harg8 : arg8.IsWhole) (arg9 : Memref sig .tc .vmem S4x512x128 .f32) (harg9 : arg9.IsWhole)
    (hc0 : ¬ cond0 i) (h : k1_cond2 i = 1#1) (hc2 : ¬ k1_cond3 i = 1#1)
    (x0 : Vec F S1x1x512x128 .bf16) (x1 x2 : Vec F S1x1x1024x128 .bf16) (p m l : Vec F S4x512x128 .f32) (K : PUnit → sProp 𝕄) :
    iprop(owns (c : Thread nD τ) arg3 fullShare x0 ∗ owns (c : Thread nD τ) arg4 fullShare x1 ∗ owns (c : Thread nD τ) arg5 fullShare x2 ∗ owns (c : Thread nD τ) arg7 fullShare p ∗ owns (c : Thread nD τ) arg8 fullShare m ∗ owns (c : Thread nD τ) arg9 fullShare l
        ∗ (iprop(owns (c : Thread nD τ) arg3 fullShare x0 ∗ owns (c : Thread nD τ) arg4 fullShare x1 ∗ owns (c : Thread nD τ) arg5 fullShare x2 ∗ owns (c : Thread nD τ) arg7 fullShare (over p (DP i x0 x1 x2 h)) ∗ owns (c : Thread nD τ) arg8 fullShare (over m (DM i x0 x1 h)) ∗ owns (c : Thread nD τ) arg9 fullShare (over l (DL i x0 x1 h))) -∗ K ⟨⟩))
      ⊢ wp frame (wpE (defs₀ (F := F)) Variants.none c none) E (cc1_flash_attn i arg3 harg3 arg4 harg4 arg5 harg5 arg6 harg6 arg7 harg7 arg8 harg8 arg9 harg9) K := by
  simp only [cc1_flash_attn_eq_skeleton]; unfold cc1_flash_attn_skel
  simp only [k1_part1_eq_skeleton, k1_part2_eq_skeleton, k1_part3_eq_skeleton, k1_part4_eq_skeleton, k1_part5_eq_skeleton, k1_part6_eq_skeleton]
  unfold owns
  iintro ⟨⟨%f0, %hf0, H0⟩, ⟨%f1, %hf1, H1⟩, ⟨%f2, %hf2, H2⟩, ⟨%f7, %hf7, H7⟩, ⟨%f8, %hf8, H8⟩, ⟨%f9, %hf9, H9⟩, Hk⟩
  subst hf0 hf1 hf2 hf7 hf8 hf9
  sl_exec (disch := first | sl_exact hc0 | sl_exact h | sl_exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H7]
  · iexists _; isplitr
    swap; · iexact H7
    ipureintro
    exact read_writes_over _ _ _
  isplitl [H8]
  · iexists _; isplitr
    swap; · iexact H8
    ipureintro
    exact read_writes_over _ _ _
  iexists _; isplitr
  swap; · iexact H9
  ipureintro
  exact read_writes_over _ _ _

set_option maxHeartbeats 1000000 in
/-- The diagonal block of keys: its two chunks' masked parts are stored in their slots and the slots are merged into the output. -/
theorem sound_C (c : Dev nD) (E : Set ℕ) (i : grid1.Coords) (arg3 : Memref sig .tc .vmem S1x1x512x128 .bf16) (harg3 : arg3.IsWhole) (arg4 : Memref sig .tc .vmem S1x1x1024x128 .bf16) (harg4 : arg4.IsWhole) (arg5 : Memref sig .tc .vmem S1x1x1024x128 .bf16) (harg5 : arg5.IsWhole) (arg6 : Memref sig .tc .vmem S1x512x128 .bf16) (harg6 : arg6.IsWhole) (arg7 : Memref sig .tc .vmem S4x512x128 .f32) (harg7 : arg7.IsWhole) (arg8 : Memref sig .tc .vmem S4x512x128 .f32) (harg8 : arg8.IsWhole) (arg9 : Memref sig .tc .vmem S4x512x128 .f32) (harg9 : arg9.IsWhole)
    (hc0 : ¬ cond0 i) (hc1 : ¬ k1_cond2 i = 1#1) (h : k1_cond3 i = 1#1)
    (x0 : Vec F S1x1x512x128 .bf16) (x1 x2 : Vec F S1x1x1024x128 .bf16) (p m l : Vec F S4x512x128 .f32) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare p ∗ owns (c : Thread nD τ) arg8 fullShare m ∗ owns (c : Thread nD τ) arg9 fullShare l
        ∗ (iprop(owns (c : Thread nD τ) arg3 fullShare x0 ∗ owns (c : Thread nD τ) arg4 fullShare x1 ∗ owns (c : Thread nD τ) arg5 fullShare x2 ∗ owns (c : Thread nD τ) arg6 fullShare (outOf i (over p (CP i x0 x1 x2 h)) (over m (CM i x0 x1 h)) (over l (CL i x0 x1 h))) ∗ owns (c : Thread nD τ) arg7 fullShare (over p (CP i x0 x1 x2 h)) ∗ owns (c : Thread nD τ) arg8 fullShare (over m (CM i x0 x1 h)) ∗ owns (c : Thread nD τ) arg9 fullShare (over l (CL i x0 x1 h))) -∗ K ⟨⟩))
      ⊢ wp frame (wpE (defs₀ (F := F)) Variants.none c none) E (cc1_flash_attn i arg3 harg3 arg4 harg4 arg5 harg5 arg6 harg6 arg7 harg7 arg8 harg8 arg9 harg9) K := by
  simp only [cc1_flash_attn_eq_skeleton]; unfold cc1_flash_attn_skel
  simp only [k1_part1_eq_skeleton, k1_part2_eq_skeleton, k1_part3_eq_skeleton, k1_part4_eq_skeleton, k1_part5_eq_skeleton, k1_part6_eq_skeleton]
  unfold owns
  iintro ⟨⟨%f0, %hf0, H0⟩, ⟨%f1, %hf1, H1⟩, ⟨%f2, %hf2, H2⟩, ⟨%d6, %f6, -, H6⟩, ⟨%f7, %hf7, H7⟩, ⟨%f8, %hf8, H8⟩, ⟨%f9, %hf9, H9⟩, Hk⟩
  subst hf0 hf1 hf2 hf7 hf8 hf9
  sl_exec (disch := first | sl_exact hc0 | sl_exact hc1 | sl_exact h)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H6]
  · iexists _; isplitr
    swap; · iexact H6
    ipureintro
    refine (View.read_writes_eq_canon _ _ _ (coverO _)).trans ?_
    have e7 := read_writes_over arg7.view f7 (CP i (View.read (Elt F) arg3.view f0) (View.read (Elt F) arg4.view f1) (View.read (Elt F) arg5.view f2) h)
    have e8 := read_writes_over arg8.view f8 (CM i (View.read (Elt F) arg3.view f0) (View.read (Elt F) arg4.view f1) h)
    have e9 := read_writes_over arg9.view f9 (CL i (View.read (Elt F) arg3.view f0) (View.read (Elt F) arg4.view f1) h)
    rw [← e7, ← e8, ← e9]
    rfl
  isplitl [H7]
  · iexists _; isplitr
    swap; · iexact H7
    ipureintro
    exact read_writes_over _ _ _
  isplitl [H8]
  · iexists _; isplitr
    swap; · iexact H8
    ipureintro
    exact read_writes_over _ _ _
  iexists _; isplitr
  swap; · iexact H9
  ipureintro
  exact read_writes_over _ _ _

set_option maxHeartbeats 1000000 in
/-- The first point: the scratch is initialised, then as for a diagonal block. -/
theorem sound_A (c : Dev nD) (E : Set ℕ) (i : grid1.Coords) (arg3 : Memref sig .tc .vmem S1x1x512x128 .bf16) (harg3 : arg3.IsWhole) (arg4 : Memref sig .tc .vmem S1x1x1024x128 .bf16) (harg4 : arg4.IsWhole) (arg5 : Memref sig .tc .vmem S1x1x1024x128 .bf16) (harg5 : arg5.IsWhole) (arg6 : Memref sig .tc .vmem S1x512x128 .bf16) (harg6 : arg6.IsWhole) (arg7 : Memref sig .tc .vmem S4x512x128 .f32) (harg7 : arg7.IsWhole) (arg8 : Memref sig .tc .vmem S4x512x128 .f32) (harg8 : arg8.IsWhole) (arg9 : Memref sig .tc .vmem S4x512x128 .f32) (harg9 : arg9.IsWhole)
    (hc0 : cond0 i) (hc1 : ¬ k1_cond2 i = 1#1) (h : k1_cond3 i = 1#1)
    (x0 : Vec F S1x1x512x128 .bf16) (x1 x2 : Vec F S1x1x1024x128 .bf16) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg3 fullShare x0 ∗ owns (c : Thread nD τ) arg4 fullShare x1 ∗ owns (c : Thread nD τ) arg5 fullShare x2 ∗ owns (c : Thread nD τ) arg6 fullShare (outOf i (over p0 (CP i x0 x1 x2 h)) (over m0 (CM i x0 x1 h)) (over l0 (CL i x0 x1 h))) ∗ owns (c : Thread nD τ) arg7 fullShare (over p0 (CP i x0 x1 x2 h)) ∗ owns (c : Thread nD τ) arg8 fullShare (over m0 (CM i x0 x1 h)) ∗ owns (c : Thread nD τ) arg9 fullShare (over l0 (CL i x0 x1 h))) -∗ K ⟨⟩))
      ⊢ wp frame (wpE (defs₀ (F := F)) Variants.none c none) E (cc1_flash_attn i arg3 harg3 arg4 harg4 arg5 harg5 arg6 harg6 arg7 harg7 arg8 harg8 arg9 harg9) K := by
  simp only [cc1_flash_attn_eq_skeleton]; unfold cc1_flash_attn_skel
  simp only [k1_part1_eq_skeleton, k1_part2_eq_skeleton, k1_part3_eq_skeleton, k1_part4_eq_skeleton, k1_part5_eq_skeleton, k1_part6_eq_skeleton]
  unfold owns
  iintro ⟨⟨%f0, %hf0, H0⟩, ⟨%f1, %hf1, H1⟩, ⟨%f2, %hf2, H2⟩, ⟨%d6, %f6, -, H6⟩, ⟨%d7, %f7, -, H7⟩, ⟨%d8, %f8, -, H8⟩, ⟨%d9, %f9, -, H9⟩, Hk⟩
  subst hf0 hf1 hf2
  sl_exec (disch := first | sl_exact hc0 | sl_exact hc1 | sl_exact h)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  have e7 : over p0 (CP i (View.read (Elt F) arg3.view f0) (View.read (Elt F) arg4.view f1) (View.read (Elt F) arg5.view f2) h) = View.canon _ := over_canon _ _
  have e8 : over m0 (CM i (View.read (Elt F) arg3.view f0) (View.read (Elt F) arg4.view f1) h) = View.canon _ := over_canon _ _
  have e9 : over l0 (CL i (View.read (Elt F) arg3.view f0) (View.read (Elt F) arg4.view f1) h) = View.canon _ := over_canon _ _
  rw [e7, e8, e9]
  isplitl [H6]
  · iexists _; isplitr
    swap; · iexact H6
    ipureintro
    refine (View.read_writes_eq_canon _ _ _ (coverO _)).trans ?_
    rw [← View.read_writes_eq_canon arg7.view arg7.view.junk (CP i (View.read (Elt F) arg3.view f0) (View.read (Elt F) arg4.view f1) (View.read (Elt F) arg5.view f2) h ++ [⟨rS, k1_pay1 (F := F)⟩]) (cover_append _ _ (coverS _)),
      ← View.read_writes_eq_canon arg8.view arg8.view.junk (CM i (View.read (Elt F) arg3.view f0) (View.read (Elt F) arg4.view f1) h ++ [⟨rS, k1_pay2 (F := F)⟩]) (cover_append _ _ (coverS _)),
      ← View.read_writes_eq_canon arg9.view arg9.view.junk (CL i (View.read (Elt F) arg3.view f0) (View.read (Elt F) arg4.view f1) h ++ [⟨rS, k1_pay3 (F := F)⟩]) (cover_append _ _ (coverS _))]
    rfl
  isplitl [H7]
  · iexists _; isplitr
    swap; · iexact H7
    ipureintro
    have hl : sound_A.sl.H7_3 c i arg3 arg4 arg5 h f0 f1 f2 = ((CP i (View.read (Elt F) arg3.view f0) (View.read (Elt F) arg4.view f1) (View.read (Elt F) arg5.view f2) h) ++ [⟨rS, k1_pay1 (F := F)⟩]) := rfl
    rw [hl]
    exact View.read_writes_eq_canon _ _ _ (cover_append _ _ (coverS _))
  isplitl [H8]
  · iexists _; isplitr
    swap; · iexact H8
    ipureintro
    have hl : sound_A.sl.H8_3 c i arg3 arg4 h f0 f1 = ((CM i (View.read (Elt F) arg3.view f0) (View.read (Elt F) arg4.view f1) h) ++ [⟨rS, k1_pay2 (F := F)⟩]) := rfl
    rw [hl]
    exact View.read_writes_eq_canon _ _ _ (cover_append _ _ (coverS _))
  iexists _; isplitr
  swap; · iexact H9
  ipureintro
  have hl : sound_A.sl.H9_3 c i arg3 arg4 h f0 f1 = ((CL i (View.read (Elt F) arg3.view f0) (View.read (Elt F) arg4.view f1) h) ++ [⟨rS, k1_pay3 (F := F)⟩]) := rfl
  rw [hl]
  exact View.read_writes_eq_canon _ _ _ (cover_append _ _ (coverS _))

end Cert.KernelIdeal.R1

end
-- ==== Proof.R1Dat.lean ====
module

public import proofs.«01_k».proof.Proof.R1Body

/-! The second call's (the attention's) proof data over any contents `V` of the buffers it is entered with, and its body obligation. -/

@[expose] public section

set_option maxRecDepth 16384

noncomputable section

namespace Cert.KernelIdeal.R1

open Cert.KernelIdeal.Gen Cert.Aux
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at point `t`. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The contents of the three scratch buffers. -/
abbrev St (F : FTy → Type) : Type := Vec F S4x512x128 .f32 × Vec F S4x512x128 .f32 × Vec F S4x512x128 .f32

/-- What the body does to the scratch at point `t`. -/
def step (c : Dev nD) (t : Fin cfg1.N) (s : St F) : St F :=
  if h : k1_cond3 (grid1.coords t) = 1#1 then
    (over s.1 (CP (grid1.coords t) (iblk V c 0 t) (iblk V c 1 t) (iblk V c 2 t) h), over s.2.1 (CM (grid1.coords t) (iblk V c 0 t) (iblk V c 1 t) h),
      over s.2.2 (CL (grid1.coords t) (iblk V c 0 t) (iblk V c 1 t) h))
  else if h : k1_cond2 (grid1.coords t) = 1#1 then
    (over s.1 (DP (grid1.coords t) (iblk V c 0 t) (iblk V c 1 t) (iblk V c 2 t) h), over s.2.1 (DM (grid1.coords t) (iblk V c 0 t) (iblk V c 1 t) h),
      over s.2.2 (DL (grid1.coords t) (iblk V c 0 t) (iblk V c 1 t) h))
  else s

/-- The scratch before point `n`, from the first point's initialisation on. -/
def stB (c : Dev nD) : ℕ → St F
  | 0 => (p0, m0, l0)
  | n + 1 => if h : n < cfg1.N then step V c ⟨n, h⟩ (stB c n) else stB c n

theorem stB_succ (c : Dev nD) (t : Fin cfg1.N) : stB V c (t.val + 1) = step V c t (stB V c t.val) := by
  rw [stB, dif_pos t.isLt]

/-- The output block the body writes at point `t`, if it writes one. -/
def outW (c : Dev nD) (t : Fin cfg1.N) : Vec F S1x512x128 .bf16 :=
  outOf (grid1.coords t) (stB V c (t.val + 1)).1 (stB V c (t.val + 1)).2.1 (stB V c (t.val + 1)).2.2

/-- What the output's buffer holds after point `t`: the block written there or, where the body writes none, at the point before. -/
def outAt (c : Dev nD) (t : Fin cfg1.N) : Vec F S1x512x128 .bf16 :=
  if t.val % 2 = t.val / 2 % 4 / 2 then outW V c t else outW V c ⟨t.val - 1, lt_of_le_of_lt (Nat.sub_le _ _) t.isLt⟩

/-- The scoped buffers no window stages: the scratch, and the rest. -/
theorem rest_split : ∃ T : Dev nD → sProp 𝕄, ∀ c : Dev nD, (Pipeline.scopedRest spec1 c : sProp 𝕄)
    = iprop((∃ d, owns (c : Thread nD τ) (Memref.whole cc1_scratch0 : Memref sig .tc .vmem S4x512x128 .f32) fullShare d) ∗ (∃ d, owns (c : Thread nD τ) (Memref.whole cc1_scratch1 : Memref sig .tc .vmem S4x512x128 .f32) fullShare d) ∗ (∃ d, owns (c : Thread nD τ) (Memref.whole cc1_scratch2 : Memref sig .tc .vmem S4x512x128 .f32) fullShare d) ∗ T c) :=
  ⟨_, fun c => by
    rw [Pipeline.scopedRest_eq_of_list spec1 c [cc1_scratch0, cc1_scratch1, cc1_scratch2, cc0_stg0_0, cc0_stg0_1, cc0_stg1_0, cc0_stg1_1, cc0_stg2_0, cc0_stg2_1, cc0_stg3_0, cc0_stg3_1, cc0_scratch0, cc2_stg0_0, cc2_stg0_1, cc2_stg1_0, cc2_stg2_0, cc2_stg2_1] (by decide) (by decide)]
    simp only [owns_whole]; rfl⟩

/-- The rest. -/
def rest (c : Dev nD) : sProp 𝕄 := rest_split.choose c

theorem rest_eq (c : Dev nD) : (Pipeline.scopedRest spec1 c : sProp 𝕄)
    = iprop((∃ d, owns (c : Thread nD τ) (Memref.whole cc1_scratch0 : Memref sig .tc .vmem S4x512x128 .f32) fullShare d) ∗ (∃ d, owns (c : Thread nD τ) (Memref.whole cc1_scratch1 : Memref sig .tc .vmem S4x512x128 .f32) fullShare d) ∗ (∃ d, owns (c : Thread nD τ) (Memref.whole cc1_scratch2 : Memref sig .tc .vmem S4x512x128 .f32) fullShare d) ∗ rest c) :=
  rest_split.choose_spec c

/-- The scratch before point `n`: after the first point, at the recursion's contents. -/
def PhiS (c : Dev nD) (n : ℕ) : sProp 𝕄 :=
  iprop((∃ s : St F, ⌜n ≠ 0 → s = stB V c n⌝ ∗ owns (c : Thread nD τ) (Memref.whole cc1_scratch0 : Memref sig .tc .vmem S4x512x128 .f32) fullShare s.1 ∗ owns (c : Thread nD τ) (Memref.whole cc1_scratch1 : Memref sig .tc .vmem S4x512x128 .f32) fullShare s.2.1 ∗ owns (c : Thread nD τ) (Memref.whole cc1_scratch2 : Memref sig .tc .vmem S4x512x128 .f32) fullShare s.2.2) ∗ rest c)

/-- The second call's proof data: the three input windows share one array. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => outAt V c t
  Φ t := PhiS V c t.val
  q w := Pipeline.shareOf spec1 w
  owed _ := 0

theorem A_eq (c : Dev nD) (w : Fin cfg1.W) : (dat V c).A w = V c (Pipeline.arrRef spec1 w) := by
  dsimp only [dat]
theorem after0 (c : Dev nD) (t : Fin cfg1.N) : (dat V c).after 0 t = iblk V c 0 t := by dsimp only [dat]
theorem after1 (c : Dev nD) (t : Fin cfg1.N) : (dat V c).after 1 t = iblk V c 1 t := by dsimp only [dat]
theorem after2 (c : Dev nD) (t : Fin cfg1.N) : (dat V c).after 2 t = iblk V c 2 t := by dsimp only [dat]
theorem after3 (c : Dev nD) (t : Fin cfg1.N) : (dat V c).after 3 t = outAt V c t := by dsimp only [dat]

theorem before0 (c : Dev nD) (t : Fin cfg1.N) (d) : (dat V c).before 0 t d = iblk V c 0 t :=
  before0_of V (dat V c) (A_eq V c 0) (after0 V c) t d
theorem before1 (c : Dev nD) (t : Fin cfg1.N) (d) : (dat V c).before 1 t d = iblk V c 1 t :=
  before1_of V (dat V c) (A_eq V c 1) (after1 V c) t d
theorem before2 (c : Dev nD) (t : Fin cfg1.N) (d) : (dat V c).before 2 t d = iblk V c 2 t :=
  before2_of V (dat V c) (A_eq V c 2) (after2 V c) t d

theorem live0 : ∀ t : Fin cfg1.N, cfg1.idle 0 (grid1.coords t) = false := fun _ => rfl
theorem live1 : ∀ t : Fin cfg1.N, cfg1.idle 1 (grid1.coords t) = false := fun _ => rfl
theorem live2 : ∀ t : Fin cfg1.N, cfg1.idle 2 (grid1.coords t) = false := fun _ => rfl
/-- The output is written at the diagonal blocks' points only. -/
theorem idle3 : ∀ t : Fin cfg1.N, cfg1.idle 3 (grid1.coords t) = false ↔ t.val % 2 = t.val / 2 % 4 / 2 :=
  (by decide +kernel : ∀ t : Fin cfg1.N, cfg1.idle 3 (grid1.coords t) = false ↔ t.val % 2 = t.val / 2 % 4 / 2)

/-- Where the output's buffer was written at the point before, and not written back there, the body finds that. -/
theorem before3 (c : Dev nD) (t : Fin cfg1.N) (h2 : t.val % 2 = 1) (hl : ¬ t.val % 2 = t.val / 2 % 4 / 2) (d) :
    (dat V c).before 3 t d = outAt V c t := by
  have hN : t.val < 256 := lt_of_lt_of_eq t.isLt (show cfg1.N = 256 from N_1)
  rw [(dat V c).before_of_pos 3 t (by omega) (Pipeline.Window.fetch_out _ rfl t) d,
    if_neg (fun h => by have := (flush1_3 _).mp h; simp only [] at this; omega)]
  have hi := (idle3 ⟨t.val - 1, lt_of_le_of_lt (Nat.sub_le _ _) t.isLt⟩).mpr (by simp only []; omega)
  unfold Dat.left
  rw [hi]
  show (dat V c).after 3 ⟨t.val - 1, lt_of_le_of_lt (Nat.sub_le _ _) t.isLt⟩ = _
  rw [after3, outAt, outAt, if_pos (by simp only []; omega), if_neg hl]

/-- What the body is called with at point `t`, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

/-- A point that neither stores nor merges: the body does nothing. -/
theorem sound_B (c : Dev nD) (E : Set ℕ) (i : grid1.Coords) (arg3 : Memref sig .tc .vmem S1x1x512x128 .bf16) (harg3 : arg3.IsWhole) (arg4 : Memref sig .tc .vmem S1x1x1024x128 .bf16) (harg4 : arg4.IsWhole) (arg5 : Memref sig .tc .vmem S1x1x1024x128 .bf16) (harg5 : arg5.IsWhole) (arg6 : Memref sig .tc .vmem S1x512x128 .bf16) (harg6 : arg6.IsWhole) (arg7 : Memref sig .tc .vmem S4x512x128 .f32) (harg7 : arg7.IsWhole) (arg8 : Memref sig .tc .vmem S4x512x128 .f32) (harg8 : arg8.IsWhole) (arg9 : Memref sig .tc .vmem S4x512x128 .f32) (harg9 : arg9.IsWhole)
    (hc0 : ¬ cond0 i) (hc1 : ¬ k1_cond2 i = 1#1) (hc2 : ¬ k1_cond3 i = 1#1) (K : PUnit → sProp 𝕄) :
    K ⟨⟩ ⊢ wp frame (wpE (defs₀ (F := F)) Variants.none c none) E (cc1_flash_attn i arg3 harg3 arg4 harg4 arg5 harg5 arg6 harg6 arg7 harg7 arg8 harg8 arg9 harg9) K := by
  simp only [cc1_flash_attn_eq_skeleton]; unfold cc1_flash_attn_skel
  iintro Hk
  sl_exec (disch := first | sl_exact hc0 | sl_exact hc1 | sl_exact hc2)
  sl_step
  iexact Hk

set_option maxHeartbeats 1600000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2]
  rw [show (dat V c).owesAt () t.succ = (dat V c).owesAt () t.castSucc from rfl,
    show (dat V c).Φ t.castSucc = PhiS V c t.val from rfl, show (dat V c).Φ t.succ = PhiS V c (t.val + 1) from rfl]
  rw [show (dat V c).leavesExact 0 t = owns (c : Thread nD τ) (st1_0 t) fullShare ((dat V c).after 0 t) from by
      unfold Dat.leavesExact; rw [live0 t], after0,
    show (dat V c).leavesExact 1 t = owns (c : Thread nD τ) (st1_1 t) fullShare ((dat V c).after 1 t) from by
      unfold Dat.leavesExact; rw [live1 t], after1,
    show (dat V c).leavesExact 2 t = owns (c : Thread nD τ) (st1_2 t) fullShare ((dat V c).after 2 t) from by
      unfold Dat.leavesExact; rw [live2 t], after2]
  unfold PhiS
  have hN : t.val < 256 := lt_of_lt_of_eq t.isLt (show cfg1.N = 256 from N_1)
  by_cases hC : t.val % 2 = t.val / 2 % 4 / 2
  · have h3 : k1_cond3 (grid1.coords t) = 1#1 := (hcond2 t).mpr hC
    have h2 : ¬ k1_cond2 (grid1.coords t) = 1#1 := fun h => by have := (hcond1 t).mp h; omega
    rw [show (dat V c).leavesExact 3 t = owns (c : Thread nD τ) (st1_3 t) fullShare ((dat V c).after 3 t) from by
      unfold Dat.leavesExact; rw [(idle3 t).mpr hC], after3, outAt, if_pos hC, outW, stB_succ, step, dif_pos h3]
    by_cases h0 : t.val = 0
    · rw [show stB V c t.val = (p0, m0, l0) from by rw [h0]; rfl]
      iintro ⟨⟨⟨%s, %hs, S0, S1, S2⟩, Hg⟩, Ho, ⟨%d0, H0⟩, ⟨%d1, H1⟩, ⟨%d2, H2⟩, ⟨%d3, H3⟩⟩
      iapply (sound_A c Set.univ (grid1.coords t) _ _ _ _ _ _ _ _ _ _ _ _ _ _ ((hcond0 t).mpr h0) h2 h3 (iblk V c 0 t) (iblk V c 1 t) (iblk V c 2 t) _)
      isplitl [H0]; · iexact H0
      isplitl [H1]; · iexact H1
      isplitl [H2]; · iexact H2
      isplitl [H3]; · iexists _; iexact H3
      isplitl [S0]; · iexists _; iexact S0
      isplitl [S1]; · iexists _; iexact S1
      isplitl [S2]; · iexists _; iexact S2
      iintro ⟨H0, H1, H2, H3, S0, S1, S2⟩
      isplitl [S0 S1 S2 Hg]
      · isplitl [S0 S1 S2]
        · iexists (_, _, _); isplitr; · ipureintro; exact fun _ => rfl
          isplitl [S0]; · iexact S0
          isplitl [S1]; · iexact S1
          iexact S2
        iexact Hg
      isplitl [Ho]; · iexact Ho
      isplitl [H0]; · iexact H0
      isplitl [H1]; · iexact H1
      isplitl [H2]; · iexact H2
      iexact H3
    · iintro ⟨⟨⟨%s, %hs, S0, S1, S2⟩, Hg⟩, Ho, ⟨%d0, H0⟩, ⟨%d1, H1⟩, ⟨%d2, H2⟩, ⟨%d3, H3⟩⟩
      obtain rfl := hs h0
      iapply (sound_C c Set.univ (grid1.coords t) _ _ _ _ _ _ _ _ _ _ _ _ _ _ (fun h => h0 ((hcond0 t).mp h)) h2 h3 (iblk V c 0 t) (iblk V c 1 t) (iblk V c 2 t)
        (stB V c t.val).1 (stB V c t.val).2.1 (stB V c t.val).2.2 _)
      isplitl [H0]; · iexact H0
      isplitl [H1]; · iexact H1
      isplitl [H2]; · iexact H2
      isplitl [H3]; · iexists _; iexact H3
      isplitl [S0]; · iexact S0
      isplitl [S1]; · iexact S1
      isplitl [S2]; · iexact S2
      iintro ⟨H0, H1, H2, H3, S0, S1, S2⟩
      isplitl [S0 S1 S2 Hg]
      · isplitl [S0 S1 S2]
        · iexists (_, _, _); isplitr; · ipureintro; exact fun _ => rfl
          isplitl [S0]; · iexact S0
          isplitl [S1]; · iexact S1
          iexact S2
        iexact Hg
      isplitl [Ho]; · iexact Ho
      isplitl [H0]; · iexact H0
      isplitl [H1]; · iexact H1
      isplitl [H2]; · iexact H2
      iexact H3
  · have h0 : t.val ≠ 0 := fun h => by omega
    have h3 : ¬ k1_cond3 (grid1.coords t) = 1#1 := fun h => hC ((hcond2 t).mp h)
    have hidle : cfg1.idle 3 (grid1.coords t) = true := by
      rw [← Bool.not_eq_false]; exact fun h => hC ((idle3 t).mp h)
    by_cases hD : t.val % 2 = 1
    · have h2 : ¬ k1_cond2 (grid1.coords t) = 1#1 := fun h => by have := (hcond1 t).mp h; omega
      rw [show (dat V c).leavesExact 3 t = owns (c : Thread nD τ) (st1_3 t) fullShare ((dat V c).after 3 t) from by
        unfold Dat.leavesExact; rw [hidle, (flush1_3 t).mpr hD], after3, stB_succ, step, dif_neg h3, dif_neg h2]
      simp only [before3 V c t hD hC]
      iintro ⟨⟨⟨%s, %hs, S0, S1, S2⟩, Hg⟩, Ho, ⟨%d0, H0⟩, ⟨%d1, H1⟩, ⟨%d2, H2⟩, ⟨%d3, H3⟩⟩
      obtain rfl := hs h0
      iapply (sound_B c Set.univ (grid1.coords t) _ _ _ _ _ _ _ _ _ _ _ _ _ _ (fun h => h0 ((hcond0 t).mp h)) h2 h3 _)
      isplitl [S0 S1 S2 Hg]
      · isplitl [S0 S1 S2]
        · iexists (stB V c t.val); isplitr; · ipureintro; exact fun _ => rfl
          isplitl [S0]; · iexact S0
          isplitl [S1]; · iexact S1
          iexact S2
        iexact Hg
      isplitl [Ho]; · iexact Ho
      isplitl [H0]; · iexact H0
      isplitl [H1]; · iexact H1
      isplitl [H2]; · iexact H2
      iexact H3
    · have h2 : k1_cond2 (grid1.coords t) = 1#1 := (hcond1 t).mpr (by omega)
      rw [show (dat V c).leavesExact 3 t = iprop(∃ d, owns (c : Thread nD τ) (st1_3 t) fullShare ((dat V c).before 3 t d)) from by
        unfold Dat.leavesExact; rw [hidle, show (cfg1.win 3).flush t = false from by rw [← Bool.not_eq_true]; exact fun h => hD ((flush1_3 t).mp h)],
        stB_succ, step, dif_neg h3, dif_pos h2]
      iintro ⟨⟨⟨%s, %hs, S0, S1, S2⟩, Hg⟩, Ho, ⟨%d0, H0⟩, ⟨%d1, H1⟩, ⟨%d2, H2⟩, ⟨%d3, H3⟩⟩
      obtain rfl := hs h0
      iapply (sound_D c Set.univ (grid1.coords t) _ _ _ _ _ _ _ _ _ _ _ _ _ _ (fun h => h0 ((hcond0 t).mp h)) h2 h3 (iblk V c 0 t) (iblk V c 1 t) (iblk V c 2 t)
        (stB V c t.val).1 (stB V c t.val).2.1 (stB V c t.val).2.2 _)
      isplitl [H0]; · iexact H0
      isplitl [H1]; · iexact H1
      isplitl [H2]; · iexact H2
      isplitl [S0]; · iexact S0
      isplitl [S1]; · iexact S1
      isplitl [S2]; · iexact S2
      iintro ⟨H0, H1, H2, S0, S1, S2⟩
      isplitl [S0 S1 S2 Hg]
      · isplitl [S0 S1 S2]
        · iexists (_, _, _); isplitr; · ipureintro; exact fun _ => rfl
          isplitl [S0]; · iexact S0
          isplitl [S1]; · iexact S1
          iexact S2
        iexact Hg
      isplitl [Ho]; · iexact Ho
      isplitl [H0]; · iexact H0
      isplitl [H1]; · iexact H1
      isplitl [H2]; · iexact H2
      iexists d3; iexact H3

theorem defs₀_row (t : Fin cfg1.N) :
    defs₀ (F := F) .tc cfg1.body (cfg1.bodyArgs t (cfg1.slots t)) = bodyAt1 t := by
  unfold defs₀; rw [Defs.onTc_tc]

theorem body_obligation (c : Dev nD) : BodyObligation (dat (F := F) V c) (defs₀ (F := F)) Variants.none () Set.univ := fun t => by
  rw [bigSep_W1, bigSep_W1, defs₀_row]
  exact triple_restated (sound_body V c t) rfl .rfl fun _ => .rfl

/-- Before the first point the invariant asks nothing of the scratch; -/
theorem hin (c : Dev nD) : (Pipeline.scopedRest spec1 c : sProp 𝕄) ⊢ (dat V c).Φ 0 := by
  rw [show (dat V c).Φ 0 = PhiS V c 0 from rfl, rest_eq]
  unfold PhiS
  iintro ⟨⟨%d0, H0⟩, ⟨%d1, H1⟩, ⟨%d2, H2⟩, Hr⟩
  isplitl [H0 H1 H2]
  · iexists (d0, d1, d2); isplitr; · ipureintro; exact fun h => absurd rfl h
    isplitl [H0]; · iexact H0
    isplitl [H1]; · iexact H1
    iexact H2
  iexact Hr

/-- after the last it gives the scratch back. -/
theorem hout (c : Dev nD) : (dat V c).Φ (Fin.last _) ⊢ (Pipeline.scopedRest spec1 c : sProp 𝕄) := by
  rw [show (dat V c).Φ (Fin.last _) = PhiS V c (Fin.last cfg1.N).val from rfl, rest_eq]
  unfold PhiS
  iintro ⟨⟨%s, -, H0, H1, H2⟩, Hr⟩
  isplitl [H0]; · iexists s.1; iexact H0
  isplitl [H1]; · iexists s.2.1; iexact H1
  isplitl [H2]; · iexists s.2.2; iexact H2
  iexact Hr

end Cert.KernelIdeal.R1

end
-- ==== Proof.R2Dat.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

/-! The third call (the output projection): its body's triple, its proof data over any contents `V` of the buffers it is
entered with, and its body obligation. -/

@[expose] public section

set_option maxRecDepth 16384

noncomputable section

namespace Cert.KernelIdeal.R2

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at point `t`. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

abbrev rX : Rect S512x2048 := Rect.unit (s := S512x2048) ![0, 0] S512x2048.size inb_S512x2048_S512x2048_0_0
abbrev rW : Rect S2048x2048 := Rect.unit (s := S2048x2048) ![0, 0] S2048x2048.size inb_S2048x2048_S2048x2048_0_0

/-- What the body leaves in its output's buffer, from its inputs' blocks. -/
def outOf (x0 : Vec F S512x2048 .bf16) (x1 : Vec F S2048x2048 .bf16) : Vec F S512x2048 .f32 :=
  View.canon [⟨rX, k2_pay1 (View.ld x0 rX) (View.ld x1 rW)⟩]

theorem coverO (p0 : Vec F S512x2048 .f32) (y : S512x2048.Idx) :
    ∃ pc ∈ ([⟨rX, p0⟩] : List (View.Piece (Elt F) S512x2048 .f32)), y ∈ pc.1.set :=
  View.cover_of_tiled [⟨rX, p0⟩] S512x2048.size (by rfl) y

set_option maxHeartbeats 1000000 in
/-- The body's triple. -/
theorem sound_kernel (c : Dev nD) (E : Set ℕ) (i : grid2.Coords) (arg1 : Memref sig .tc .vmem S512x2048 .bf16) (harg1 : arg1.IsWhole) (arg2 : Memref sig .tc .vmem S2048x2048 .bf16) (harg2 : arg2.IsWhole) (arg3 : Memref sig .tc .vmem S512x2048 .f32) (harg3 : arg3.IsWhole)
    (x0 : Vec F S512x2048 .bf16) (x1 : Vec F S2048x2048 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (outOf x0 x1)) -∗ K ⟨⟩))
      ⊢ wp frame (wpE (defs₀ (F := F)) Variants.none c none) E (cc2_out_proj i arg1 harg1 arg2 harg2 arg3 harg3) K := by
  simp only [cc2_out_proj_eq_skeleton]; unfold cc2_out_proj_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (coverO _)

/-- The third call's proof data. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => outOf (iblk V c 0 t) (iblk V c 1 t)
  Φ t := Pipeline.scopedRest spec2 c
  q _ := fullShare
  owed _ := 0

theorem A_eq (c : Dev nD) (w : Fin cfg2.W) : (dat V c).A w = V c (Pipeline.arrRef spec2 w) := by
  dsimp only [dat]
theorem after0 (c : Dev nD) (t : Fin cfg2.N) : (dat V c).after 0 t = iblk V c 0 t := by dsimp only [dat]
theorem after1 (c : Dev nD) (t : Fin cfg2.N) : (dat V c).after 1 t = iblk V c 1 t := by dsimp only [dat]
theorem after2 (c : Dev nD) (t : Fin cfg2.N) : (dat V c).after 2 t = outOf (iblk V c 0 t) (iblk V c 1 t) := by dsimp only [dat]

theorem before0 (c : Dev nD) (t : Fin cfg2.N) (d) : (dat V c).before 0 t d = iblk V c 0 t :=
  before0_of V (dat V c) (A_eq V c 0) (after0 V c) t d
theorem before1 (c : Dev nD) (t : Fin cfg2.N) (d) : (dat V c).before 1 t d = iblk V c 1 t :=
  before1_of V (dat V c) (A_eq V c 1) (after1 V c) t d

/-- What the body is called with at point `t`, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d)))

/-- and what it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t))

theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before0, before1]
  rw [show (dat V c).owesAt () t.succ = (dat V c).owesAt () t.castSucc from rfl,
    show (dat V c).Φ t.succ = (dat V c).Φ t.castSucc from rfl, after0, after1, after2]
  iintro ⟨HΦ, Ho, ⟨%d0, H0⟩, ⟨%d1, H1⟩, ⟨%d2, H2⟩⟩
  iapply (sound_kernel c Set.univ (grid2.coords t) _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem defs₀_row (t : Fin cfg2.N) :
    defs₀ (F := F) .tc cfg2.body (cfg2.bodyArgs t (cfg2.slots t)) = bodyAt2 t := by
  unfold defs₀; rw [Defs.onTc_tc]

theorem body_obligation (c : Dev nD) : BodyObligation (dat (F := F) V c) (defs₀ (F := F)) Variants.none () Set.univ := fun t => by
  rw [bigSep_W2, bigSep_W2, defs₀_row]
  exact triple_restated (sound_body V c t) rfl .rfl fun _ => .rfl

end Cert.KernelIdeal.R2

end
-- ==== Proof.Run.lean ====
module

public import proofs.«01_k».proof.Proof.Gen.KernelIdeal.Regions
public import proofs.«01_k».proof.Proof.R0Dat
public import proofs.«01_k».proof.Proof.R1Dat
public import proofs.«01_k».proof.Proof.R2Dat
public import Idealize.ShloMosaic.Lib.Pipeline.RegionsLoop

/-! The three calls as segments of the program, and the program's run: what it leaves in its result's array. -/

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf HostSeg RegionSeg Seg)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The arrays between the calls -/

/-- The first call's result: the queries, the keys and the values. -/
def o2 (c : Dev nD) : Buf (Elt F) ((c : Thread nD τ).loc main_v19) := (R0.dat (fun c b => V1 m c b) c).arrAt 3 cfg0.N
/-- The buffers after it. -/
def W2 (c : Dev nD) : Valuation τ sig (Elt F) := Function.update (V1 m c) main_v19 (o2 m c)
/-- The second call's result: the attention. -/
def o3 (c : Dev nD) : Buf (Elt F) ((c : Thread nD τ).loc main_v20) := (R1.dat (fun c b => W2 m c b) c).arrAt 3 cfg1.N
def W3 (c : Dev nD) : Valuation τ sig (Elt F) := Function.update (W2 m c) main_v20 (o3 m c)
def W4 (c : Dev nD) : Valuation τ sig (Elt F) := StableHlo.after hostOps2 (W3 m c)
/-- The third call's result: the output projection. -/
def o5 (c : Dev nD) : Buf (Elt F) ((c : Thread nD τ).loc main_v23) := (R2.dat (fun c b => W4 m c b) c).arrAt 2 cfg2.N
def W5 (c : Dev nD) : Valuation τ sig (Elt F) := Function.update (W4 m c) main_v23 (o5 m c)

theorem W2_same (c : Dev nD) : W2 m c main_v19 = o2 m c := Function.update_self ..
theorem W2_ne (c : Dev nD) (r : Ref sig .tc) (h : r ≠ main_v19) : W2 m c r = V1 m c r :=
  Function.update_of_ne (StableHlo.devRef_ne_of_ne h) ..
theorem W3_same (c : Dev nD) : W3 m c main_v20 = o3 m c := Function.update_self ..
theorem W3_ne (c : Dev nD) (r : Ref sig .tc) (h : r ≠ main_v20) : W3 m c r = W2 m c r :=
  Function.update_of_ne (StableHlo.devRef_ne_of_ne h) ..
theorem W4_of (c : Dev nD) (r : Ref sig .tc) (h : r ∉ hostOps2_W) : W4 m c r = W3 m c r :=
  StableHlo.after_of_writes_sub hostOps2 _ hostOps2_writes h
theorem W5_same (c : Dev nD) : W5 m c main_v23 = o5 m c := Function.update_self ..
theorem W5_ne (c : Dev nD) (r : Ref sig .tc) (h : r ≠ main_v23) : W5 m c r = W4 m c r :=
  Function.update_of_ne (StableHlo.devRef_ne_of_ne h) ..

/-- What the calls leave. -/
def outs : Outs (F := F) := fun _ r c => W5 m c r

theorem outs2 (c : Dev nD) : outs m 2 main_v19 c = o2 m c :=
  (W5_ne m c _ (by decide)).trans ((W4_of m c _ (by decide)).trans ((W3_ne m c _ (by decide)).trans (W2_same m c)))
theorem outs3 (c : Dev nD) : outs m 3 main_v20 c = o3 m c :=
  (W5_ne m c _ (by decide)).trans ((W4_of m c _ (by decide)).trans (W3_same m c))
theorem outs5 (c : Dev nD) : outs m 5 main_v23 c = o5 m c := W5_same m c

theorem V2_eq (c : Dev nD) : V2 m (outs m) c = W2 m c := by unfold W2; rw [← outs2]
theorem V3_eq (c : Dev nD) : V3 m (outs m) c = W3 m c := by unfold W3; rw [← outs3, ← V2_eq]
theorem V4_eq (c : Dev nD) : V4 m (outs m) c = W4 m c := by unfold W4; rw [← V3_eq]
theorem V5_eq (c : Dev nD) : V5 m (outs m) c = W5 m c := by unfold W5; rw [← outs5, ← V4_eq]

/-! ## The calls' proof data and segments -/

/-- Each call's proof data. -/
def pdats : (p : Fin 3) → (c : Dev nD) → Dat τ (Elt F) Unit ℕ (UR sig nD τ) ℕ (cfgs p) c
  | ⟨0, _⟩ => fun c => R0.dat (fun c b => V1 m c b) c
  | ⟨1, _⟩ => fun c => R1.dat (fun c b => W2 m c b) c
  | ⟨2, _⟩ => fun c => R2.dat (fun c b => W4 m c b) c

/-- No cell is waited on by anything but the calls' own pipelines. -/
abbrev L : GSem nD τ sig → Finset Unit := fun _ => ∅
abbrev lv : GSem nD τ sig → Unit → ℕ := fun _ _ => 0
/-- What rides along: the core's debts, none. -/
def E (_ : Fin 4) (c : Dev nD) : sProp 𝕄 := iprop(∃ W, owes (c : Thread nD τ) (0 : CellTallies nD τ sig Unit) W)

set_option backward.isDefEq.respectTransparency.types false in
/-- Call 0's segment. -/
def seg0 : RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (R0.body_obligation (fun c b => V1 m c b) c).loose
  hwaits := Pipeline.hwaits_of_owed_zero _ _ _ _ L lv 0 fun _ _ => rfl
  pre c := iprop(StableHlo.held (c : Thread nD τ) (Pipeline.ucRefs τ sig) (V1 m c) ∗ E 0 c)
  post c := iprop(StableHlo.held (c : Thread nD τ) (Pipeline.ucRefs τ sig) (W2 m c) ∗ E 0 c)
  X _ := BI.emp
  Y _ := BI.emp
  Z c := Pipeline.unscopedRest (Ix := Unit) (Name := ℕ) (U := UR sig nD τ) (Lvl := ℕ) spec0 c (fun b => V1 m c b)
  hentry c := by
    rw [Pipeline.ownSems0_none, ← Pipeline.unscopedBufs_held (Ix := Unit) (Name := ℕ) (U := UR sig nD τ) (Lvl := ℕ) c (V1 m c)]
    have hsplit := Pipeline.arrays_of_unscopedBufs (p := 0) (pcfgs (F := F)) adm (pdats m) launch0.win launch0.arr_whole c
      ((pdats m 0 c).share_full fun _ => rfl) (fun b => V1 m c b) fun _ => rfl
    unfold E
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 0 c).Φ 0 = (R0.dat (fun c b => V1 m c b) c).Φ 0 from rfl]
    iintro ⟨-, -, Hr⟩
    iapply (R0.hin (fun c b => V1 m c b) c)
    iexact Hr
  hout c := by
    rw [Pipeline.ownSems0_none, show (pdats m 0 c).Φ (Fin.last _) = (R0.dat (fun c b => V1 m c b) c).Φ (Fin.last _) from rfl]
    iintro Hr
    isplitr; · iempintro
    isplitr; · iempintro
    iapply (R0.hout (fun c b => V1 m c b) c)
    iexact Hr
  hexit c := by
    rw [← Pipeline.unscopedBufs_held (Ix := Unit) (Name := ℕ) (U := UR sig nD τ) (Lvl := ℕ) c (W2 m c)]
    have hjoin := Pipeline.unscopedBufs_of_arrays (p := 0) (pcfgs (F := F)) adm (Ix := Unit) (Name := ℕ) (U := UR sig nD τ) (Lvl := ℕ) launch0.win launch0.arr_whole c
      (pdats m) ((pdats m 0 c).share_full fun _ => rfl)
      (fun b => V1 m c b) (fun b => W2 m c b) ((pdats m 0 c).arrAt · cfg0.N)
      (fun w => by
        fin_cases w
        · exact ((pdats m 0 c).arrAt_in 0 rfl _).trans (W2_ne m c main_v0 (by decide)).symm
        · exact ((pdats m 0 c).arrAt_in 1 rfl _).trans (W2_ne m c main_v18 (by decide)).symm
        · exact ((pdats m 0 c).arrAt_in 2 rfl _).trans (W2_ne m c main_v17 (by decide)).symm
        · exact (W2_same m c).symm)
      (fun b hb => W2_ne m c b fun h => hb (h ▸ Finset.mem_image.mpr ⟨3, Finset.mem_univ _, rfl⟩))
    unfold E
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

set_option backward.isDefEq.respectTransparency.types false in
/-- Call 1's segment. -/
def seg1 : RegionSeg (pcfgs (F := F)) adm (pdats m) () defs₀ Variants.none L lv 1 where
  win := winFacts₀1
  block_pos := launch₀1.block_pos
  stage_whole := launch₀1.stage_whole
  K := PEmpty
  osem k := k.elim
  ho := Pipeline.OwnSemFacts.none _
  hbody c := (R1.body_obligation (fun c b => W2 m c b) c).loose
  hwaits := Pipeline.hwaits_of_owed_zero _ _ _ _ L lv 1 fun _ _ => rfl
  pre c := iprop(StableHlo.held (c : Thread nD τ) (Pipeline.ucRefs τ sig) (W2 m c) ∗ E 0 c)
  post c := iprop(StableHlo.held (c : Thread nD τ) (Pipeline.ucRefs τ sig) (W3 m c) ∗ E 0 c)
  X _ := BI.emp
  Y _ := BI.emp
  Z c := Pipeline.unscopedRest (Ix := Unit) (Name := ℕ) (U := UR sig nD τ) (Lvl := ℕ) spec1 c (fun b => W2 m c b)
  hentry c := by
    rw [Pipeline.ownSems0_none, ← Pipeline.unscopedBufs_held (Ix := Unit) (Name := ℕ) (U := UR sig nD τ) (Lvl := ℕ) c (W2 m c)]
    have hsplit := Pipeline.arrays_of_unscopedBufs_shared (p := 1) (pcfgs (F := F)) adm (pdats m) winFacts₀1 sharedIn1 arr_whole1 c
      (fun _ _ => rfl) (fun b => W2 m c b) fun _ => rfl
    unfold E
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 1 c).Φ 0 = (R1.dat (fun c b => W2 m c b) c).Φ 0 from rfl]
    iintro ⟨-, -, Hr⟩
    iapply (R1.hin (fun c b => W2 m c b) c)
    iexact Hr
  hout c := by
    rw [Pipeline.ownSems0_none, show (pdats m 1 c).Φ (Fin.last _) = (R1.dat (fun c b => W2 m c b) c).Φ (Fin.last _) from rfl]
    iintro Hr
    isplitr; · iempintro
    isplitr; · iempintro
    iapply (R1.hout (fun c b => W2 m c b) c)
    iexact Hr
  hexit c := by
    rw [← Pipeline.unscopedBufs_held (Ix := Unit) (Name := ℕ) (U := UR sig nD τ) (Lvl := ℕ) c (W3 m c)]
    have hjoin := Pipeline.unscopedBufs_of_arrays_shared (p := 1) (pcfgs (F := F)) adm (Ix := Unit) (Name := ℕ) (U := UR sig nD τ) (Lvl := ℕ) winFacts₀1 sharedIn1 arr_whole1 c
      (pdats m) (fun _ _ => rfl)
      (fun b => W2 m c b) (fun b => W3 m c b) ((pdats m 1 c).arrAt · cfg1.N)
      (fun w => by
        fin_cases w
        · exact ((pdats m 1 c).arrAt_in 0 rfl _).trans (W3_ne m c main_v19 (by decide)).symm
        · exact ((pdats m 1 c).arrAt_in 1 rfl _).trans (W3_ne m c main_v19 (by decide)).symm
        · exact ((pdats m 1 c).arrAt_in 2 rfl _).trans (W3_ne m c main_v19 (by decide)).symm
        · exact (W3_same m c).symm)
      (fun b hb => W3_ne m c b fun h => hb (h ▸ Finset.mem_image.mpr ⟨3, Finset.mem_univ _, rfl⟩))
    unfold E
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

set_option backward.isDefEq.respectTransparency.types false in
/-- Call 2's segment. -/
def seg2 : RegionSeg (pcfgs (F := F)) adm (pdats m) () defs₀ Variants.none L lv 2 where
  win := launch2.win.to₀
  block_pos := launch2.block_pos
  stage_whole := launch2.stage_whole
  K := PEmpty
  osem k := k.elim
  ho := Pipeline.OwnSemFacts.none _
  hbody c := (R2.body_obligation (fun c b => W4 m c b) c).loose
  hwaits := Pipeline.hwaits_of_owed_zero _ _ _ _ L lv 2 fun _ _ => rfl
  pre c := iprop(StableHlo.held (c : Thread nD τ) (Pipeline.ucRefs τ sig) (W4 m c) ∗ E 0 c)
  post c := iprop(StableHlo.held (c : Thread nD τ) (Pipeline.ucRefs τ sig) (W5 m c) ∗ E 0 c)
  X _ := BI.emp
  Y _ := BI.emp
  Z c := Pipeline.unscopedRest (Ix := Unit) (Name := ℕ) (U := UR sig nD τ) (Lvl := ℕ) spec2 c (fun b => W4 m c b)
  hentry c := by
    rw [Pipeline.ownSems0_none, ← Pipeline.unscopedBufs_held (Ix := Unit) (Name := ℕ) (U := UR sig nD τ) (Lvl := ℕ) c (W4 m c)]
    have hsplit := Pipeline.arrays_of_unscopedBufs (p := 2) (pcfgs (F := F)) adm (pdats m) launch2.win launch2.arr_whole c
      ((pdats m 2 c).share_full fun _ => rfl) (fun b => W4 m c b) fun _ => rfl
    unfold E
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 2 c).Φ 0 = Pipeline.scopedRest spec2 c from rfl]
    iintro ⟨-, -, Hr⟩
    iexact Hr
  hout c := by
    rw [Pipeline.ownSems0_none, show (pdats m 2 c).Φ (Fin.last _) = Pipeline.scopedRest spec2 c from rfl]
    iintro Hr
    isplitr; · iempintro
    isplitr; · iempintro
    iexact Hr
  hexit c := by
    rw [← Pipeline.unscopedBufs_held (Ix := Unit) (Name := ℕ) (U := UR sig nD τ) (Lvl := ℕ) c (W5 m c)]
    have hjoin := Pipeline.unscopedBufs_of_arrays (p := 2) (pcfgs (F := F)) adm (Ix := Unit) (Name := ℕ) (U := UR sig nD τ) (Lvl := ℕ) launch2.win launch2.arr_whole c
      (pdats m) ((pdats m 2 c).share_full fun _ => rfl)
      (fun b => W4 m c b) (fun b => W5 m c b) ((pdats m 2 c).arrAt · cfg2.N)
      (fun w => by
        fin_cases w
        · exact ((pdats m 2 c).arrAt_in 0 rfl _).trans (W5_ne m c main_v21 (by decide)).symm
        · exact ((pdats m 2 c).arrAt_in 1 rfl _).trans (W5_ne m c main_v22 (by decide)).symm
        · exact (W5_same m c).symm)
      (fun b hb => W5_ne m c b fun h => hb (h ▸ Finset.mem_image.mpr ⟨2, Finset.mem_univ _, rfl⟩))
    unfold E
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

/-! ## The run -/

section
variable (outs : Outs (F := F))

set_option backward.isDefEq.respectTransparency.types false in
/-- The run, given the calls' segments: the arguments as launched, the result's array at the last contents, every
    counter zero. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (pdats : (p : Fin 3) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V2 m outs c) ∗ E 1 c) ⊢ R1.pre c)
    (hpost1 : ∀ c : Dev nD, R1.post c ⊢ iprop(StableHlo.held (c : Thread nD τ) (Pipeline.ucRefs τ sig) (V3 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V4 m outs c) ∗ E 2 c) ⊢ R2.pre c)
    (hpost2 : ∀ c : Dev nD, R2.post c ⊢ iprop(StableHlo.held (c : Thread nD τ) (Pipeline.ucRefs τ sig) (V5 m outs c) ∗ E 3 c)) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_v24) = V6 m outs c main_v24)
      ∧ r.2.sem = fun _ => 0) := by
  refine Pipeline.θ_run_regions_kit_dev_sems (pcfgs (F := F)) adm pdats ι cellOf_inj EP defs₀ 𝒱₀ L lv m ρ main
    (segs m outs 𝒱₀ L lv E ι pdats R0 R1 R2)
    (fun c Q => by
      rewrite [main_chain c, Seg.run_eq_chain,
        show (segs m outs 𝒱₀ L lv E ι pdats R0 R1 R2 c).map Seg.prog = [
          StableHlo.seq hostOps0,
          Prog.lift (.customCall (Pipeline.entry 0) ()),
          Prog.lift (.customCall (Pipeline.entry 1) ()),
          StableHlo.seq hostOps2,
          Prog.lift (.customCall (Pipeline.entry 2) ()),
          StableHlo.seq hostOps3 ] from rfl]
      dsimp (config := { failIfUnchanged := false }) only
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V6 m outs c))
    (hch := fun c => ⟨.rfl, hpre0 c, (hpost0 c).trans (hpre1 c), hpost1 c, hpre2 c, hpost2 c, sep_mono .rfl (hE3 c)⟩)
    (hinit := ?_) (QY := fun c s => s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_v24) = V6 m outs c main_v24)
    (hfin := fun c s' => ?_) (hQ := fun _ h hz => ⟨h, funext fun g => hz g (.inr (regions_no_unscoped g.2))⟩)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V6 m outs c) s') $$ [Hh HSI]
    · isplitl [Hh] <;> iassumption
    icases Hr with ⟨%h, HSI⟩
    imodintro
    isplitr
    · ipureintro
      exact ⟨(h (Proc.devRef .tc main_arg0) (Finset.mem_filter.mpr ⟨StableHlo.devRef_mem_tcRefs main_arg0, by decide⟩)).trans (V6_main_arg0 m outs c),
        (h (Proc.devRef .tc main_arg1) (Finset.mem_filter.mpr ⟨StableHlo.devRef_mem_tcRefs main_arg1, by decide⟩)).trans (V6_main_arg1 m outs c),
        (h (Proc.devRef .tc main_arg2) (Finset.mem_filter.mpr ⟨StableHlo.devRef_mem_tcRefs main_arg2, by decide⟩)).trans (V6_main_arg2 m outs c),
        (h (Proc.devRef .tc main_arg3) (Finset.mem_filter.mpr ⟨StableHlo.devRef_mem_tcRefs main_arg3, by decide⟩)).trans (V6_main_arg3 m outs c),
        h (Proc.devRef .tc main_v24) (Finset.mem_filter.mpr ⟨StableHlo.devRef_mem_tcRefs main_v24, by decide⟩)⟩
    · iexact HSI

end

set_option backward.isDefEq.respectTransparency.types false in
/-- THE RUN: it ends, the arguments as launched, the result's array at `V6`'s contents, every counter zero. -/
theorem run :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_v24) = V6 m (outs m) c main_v24)
      ∧ r.2.sem = fun _ => 0) := by
  refine run_cond m ρ (outs m) emb₁ () Variants.none L lv (fun _ _ => rfl) (pdats m) 0 (fun _ => iprop(emp))
    (initOf (Pipeline.cells cfgs cellOf_inj) (Pipeline.launchToks cfgs cellOf_inj)) ?_ E ?_ (fun c => .rfl)
    (seg0 m) (fun c => .rfl) (fun c => by rw [V2_eq]; exact .rfl)
    (seg1 m) (fun c => by rw [V2_eq]; exact .rfl) (fun c => by rw [V3_eq]; exact .rfl)
    (seg2 m) (fun c => by rw [V4_eq]; exact .rfl) (fun c => by rw [V5_eq]; exact .rfl)
  · iintro Hu; imodintro
    isplitl [Hu]
    · iapply (show (ownU _ : sProp 𝕄) ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · have h1 (c : Dev nD) : (iprop(unscopedSems0 c ∗ owes (c : Thread nD τ) ((0 : Dev nD → CellTallies nD τ sig Unit) c) ∅
          ∗ Pipeline.launchCred 0 c ∗ prngReg c (ρ c) ∗ emp) : sProp 𝕄) ⊢ E 0 c := by
      unfold E
      iintro ⟨-, HO, -, -, -⟩
      iexists ∅; iexact HO
    have hE : (bigSep Finset.univ fun c : Dev nD => iprop(unscopedSems0 c ∗ owes (c : Thread nD τ) ((0 : Dev nD → CellTallies nD τ sig Unit) c) ∅
          ∗ Pipeline.launchCred 0 c ∗ prngReg c (ρ c) ∗ emp)) ⊢ (bigSep Finset.univ (E 0) : sProp 𝕄) :=
      bigSep_mono fun c _ => h1 c
    iintro ⟨H, -⟩
    imodintro
    iapply hE; iexact H

/-- The frame. -/
theorem frame_run :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨(h.1 c).1, (h.1 c).2.1, (h.1 c).2.2.1, (h.1 c).2.2.2.1⟩, h.2⟩) (run m ρ)

end Cert.KernelIdeal.Run

end
-- ==== Proof.Frames.lean ====
module

public import proofs.«01_k».proof.Defs
public import proofs.«01_k».proof.Proof.KRun
public import proofs.«01_k».proof.Proof.Run
public import proofs.«01_k».proof.Proof.Gen.ReferenceIdeal
public import proofs.«01_k».proof.Proof.Gen.ReferenceIdeal.Run
public import Idealize.ShloMosaic.Adequacy
public import Idealize.ShloMosaic.Init

/-! The frames of the three programs, and the two named constants. -/

@[expose] public section

set_option maxRecDepth 16384

noncomputable section

namespace Cert.Proof

open Idealize.ShloMosaic Idealize.SL.Sem

theorem frame_p : Cert.quiescent_Kernel := fun m g _ => Cert.Kernel.Run.frame_run m g

theorem frame_pi : Cert.quiescent_KernelIdeal := fun m g _ => Cert.KernelIdeal.Run.frame_run m g

theorem frame_ri : Cert.quiescent_ReferenceIdeal := fun m g _ =>
  (θ_run Cert.ReferenceIdeal.defs _ _).mono
    (fun r h => ⟨fun c => (h c).2, sem_eq_zero_of_no_sems (by decide) r.2⟩)
    (Cert.ReferenceIdeal.Value.run (F := Ideal) m g)

theorem named_ok : Cert.preserves_Kernel_KernelIdeal :=
  ⟨IdealRules.named_const.statement Cert.KernelIdeal.κ "mask" .f32 0xF149F2CA#32 ⊥ rfl,
   IdealRules.named_const.statement Cert.KernelIdeal.κ "scale" .bf16 0x3E03#16
     (((Real.sqrt 128)⁻¹ * (Real.log 2)⁻¹ : ℝ) : EReal) rfl⟩

end Cert.Proof

end
-- ==== Proof.Soft.lean ====
/- Softmax over the extended reals, in one pass and in four chunks.

   The kernel keeps, for each chunk of 512 keys, the chunk's largest score, the sum of the exponentials and the weighted
   sum of the values, and rescales them when it merges the chunks.  Its scores are the reference's divided by the
   logarithm of two, and its exponentials are powers of two.  Masked scores are `⊥`; all others are real. -/
module

public import Idealize.ShloMosaic.PureOps.Ideal

@[expose] public section

noncomputable section

namespace Cert.Soft

open Idealize.ShloMosaic

/-- The extended real is a real. -/
def IsR (x : EReal) : Prop := ∃ r : ℝ, x = (r : EReal)

theorem IsR.coe (r : ℝ) : IsR (r : EReal) := ⟨r, rfl⟩
theorem IsR.zero : IsR 0 := ⟨0, rfl⟩
theorem IsR.add {x y : EReal} (hx : IsR x) (hy : IsR y) : IsR (x + y) := by
  obtain ⟨a, rfl⟩ := hx; obtain ⟨b, rfl⟩ := hy; exact ⟨a + b, rfl⟩
theorem IsR.sub {x y : EReal} (hx : IsR x) (hy : IsR y) : IsR (x - y) := by
  obtain ⟨a, rfl⟩ := hx; obtain ⟨b, rfl⟩ := hy; exact ⟨a - b, rfl⟩
theorem IsR.mul {x y : EReal} (hx : IsR x) (hy : IsR y) : IsR (x * y) := by
  obtain ⟨a, rfl⟩ := hx; obtain ⟨b, rfl⟩ := hy; exact ⟨a * b, (EReal.coe_mul a b).symm⟩
theorem IsR.sum {ι : Type*} (S : Finset ι) {f : ι → EReal} (h : ∀ i ∈ S, IsR (f i)) : IsR (∑ i ∈ S, f i) := by
  classical
  induction S using Finset.induction_on with
  | empty => simpa using IsR.zero
  | insert a S ha ih =>
      rw [Finset.sum_insert ha]
      exact (h a (Finset.mem_insert_self a S)).add (ih fun i hi => h i (Finset.mem_insert_of_mem hi))
theorem IsR.div {x : EReal} {y : ℝ} (hy : y ≠ 0) (hx : IsR x) : IsR (Ideal.div x (y : EReal)) := by
  rw [Ideal.div_coe hy]; exact hx.mul (IsR.coe _)
theorem isR_of {x : EReal} (h1 : x ≠ ⊥) (h2 : x ≠ ⊤) : IsR x := ⟨x.toReal, (EReal.coe_toReal h2 h1).symm⟩

theorem coe_sum {ι : Type*} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- A nonnegative real factor goes inside a sum of extended reals. -/
theorem sum_mul_coe {ι : Type*} (S : Finset ι) (f : ι → EReal) {a : ℝ} (ha : 0 ≤ a) :
    (∑ i ∈ S, f i) * (a : EReal) = ∑ i ∈ S, f i * (a : EReal) := by
  classical
  induction S using Finset.induction_on with
  | empty => simp
  | insert b S hb ih =>
      rw [Finset.sum_insert hb, Finset.sum_insert hb, ← ih]
      exact EReal.right_distrib_of_nonneg_of_ne_top (EReal.coe_nonneg.mpr ha) (EReal.coe_ne_top a) _ _

/-- The largest of finitely many extended reals, none of them `⊤` and one of them above `⊥`, is a real. -/
theorem isR_fold_max {ι : Type*} [Fintype ι] (f : ι → EReal) (h : ∀ i, f i ≠ ⊤) {i : ι} (hi : f i ≠ ⊥) :
    IsR (Finset.univ.fold max (⊥ : EReal) f) := by
  refine isR_of (fun e => hi ?_) (fun e => ?_)
  · exact le_bot_iff.mp (e ▸ (Finset.le_fold_max _).mpr (Or.inr ⟨i, Finset.mem_univ i, le_rfl⟩))
  · rcases (Finset.le_fold_max (⊤ : EReal)).mp e.ge with h' | ⟨j, _, hj⟩
    · exact absurd (le_bot_iff.mp (le_trans h' le_rfl)) (by simp)
    · exact h j (top_le_iff.mp hj)

theorem fold_max_eq_bot {ι : Type*} [Fintype ι] {f : ι → EReal} (h : Finset.univ.fold max (⊥ : EReal) f = ⊥) (i : ι) :
    f i = ⊥ :=
  le_bot_iff.mp (h ▸ (Finset.le_fold_max _).mpr (Or.inr ⟨i, Finset.mem_univ i, le_rfl⟩))

/-- A reference score and the kernel's score of the same pair: both masked, or both the same real up to the factor. -/
def Pair (s t : EReal) : Prop := s = ⊥ ∧ t = ⊥ ∨ ∃ r : ℝ, s = (r : EReal) ∧ t = ((r / Real.log 2 : ℝ) : EReal)

/-- The exponential of a score as a real. -/
def ex (s : EReal) : ℝ := if s = ⊥ then 0 else Real.exp s.toReal

theorem ex_bot : ex ⊥ = 0 := if_pos rfl
theorem ex_coe (r : ℝ) : ex (r : EReal) = Real.exp r := by
  rw [ex, if_neg (EReal.coe_ne_bot r), EReal.toReal_coe]
theorem ex_nonneg (s : EReal) : 0 ≤ ex s := by
  unfold ex; split
  · exact le_rfl
  · exact (Real.exp_pos _).le

theorem Pair.ne_top {s t : EReal} (h : Pair s t) : t ≠ ⊤ := by
  rcases h with ⟨_, rfl⟩ | ⟨r, _, rfl⟩
  · simp
  · exact EReal.coe_ne_top _
theorem Pair.ne_top' {s t : EReal} (h : Pair s t) : s ≠ ⊤ := by
  rcases h with ⟨rfl, _⟩ | ⟨r, rfl, _⟩
  · simp
  · exact EReal.coe_ne_top _
theorem Pair.bot_iff {s t : EReal} (h : Pair s t) : s = ⊥ ↔ t = ⊥ := by
  rcases h with ⟨rfl, rfl⟩ | ⟨r, rfl, rfl⟩
  · simp
  · simp

theorem exp_sub {s t : EReal} (h : Pair s t) (M : ℝ) :
    Ideal.exp (s - (M : EReal)) = ((ex s * Real.exp (-M) : ℝ) : EReal) := by
  rcases h with ⟨rfl, _⟩ | ⟨r, rfl, _⟩
  · simp [ex_bot]
  · rw [← EReal.coe_sub, Ideal.exp_coe, ex_coe, ← Real.exp_add, sub_eq_add_neg]

theorem exp2_sub {s t : EReal} (h : Pair s t) (M : ℝ) :
    Ideal.exp2 (t - (M : EReal)) = ((ex s * Real.rpow 2 (-M) : ℝ) : EReal) := by
  rcases h with ⟨rfl, rfl⟩ | ⟨r, rfl, rfl⟩
  · simp [ex_bot]
  · rw [← EReal.coe_sub, Ideal.exp2_coe, ex_coe, sub_eq_add_neg]
    congr 1
    have h2 : (0 : ℝ) < 2 := by norm_num
    have hl : Real.log 2 ≠ 0 := (Real.log_pos (by norm_num)).ne'
    change (2 : ℝ) ^ (r / Real.log 2 + -M) = Real.exp r * (2 : ℝ) ^ (-M)
    rw [Real.rpow_add h2, Real.rpow_def_of_pos h2 (r / Real.log 2), mul_div_cancel₀ _ hl]

/-- One chunk's contribution to a merged sum, its own largest score replaced by the merged one. -/
theorem chunk (s t v : Fin 512 → EReal) (hs : ∀ k, Pair (s k) (t k)) (m : ℝ) {M : EReal}
    (hM : M = Finset.univ.fold max (⊥ : EReal) t) :
    (∑ k, Ideal.exp2 (t k - M) * v k) * Ideal.exp2 (M - (m : EReal))
        = ∑ k, ((ex (s k) * Real.rpow 2 (-m) : ℝ) : EReal) * v k := by
  by_cases hb : M = ⊥
  · have ht : ∀ k, t k = ⊥ := fold_max_eq_bot (hM ▸ hb)
    have hs' : ∀ k, s k = ⊥ := fun k => (hs k).bot_iff.mpr (ht k)
    subst hb
    simp [hs', ex_bot]
  · obtain ⟨k0, hk0⟩ : ∃ k, t k ≠ ⊥ := by
      by_contra hc
      push Not at hc
      refine hb (hM.trans (le_bot_iff.mp ((Finset.fold_max_le (⊥ : EReal)).mpr ⟨le_rfl, fun k _ => (hc k).le⟩)))
    obtain ⟨r, hr⟩ := isR_fold_max t (fun k => (hs k).ne_top) hk0
    rw [← hM] at hr
    subst hr
    have hc : Ideal.exp2 ((r : EReal) - (m : EReal)) = ((Real.rpow 2 (r - m) : ℝ) : EReal) := by
      rw [← EReal.coe_sub, Ideal.exp2_coe]
    have hpos : (0 : ℝ) ≤ Real.rpow 2 (r - m) := (Real.rpow_pos_of_pos (by norm_num) _).le
    rw [hc, sum_mul_coe _ _ hpos]
    refine Finset.sum_congr rfl fun k _ => ?_
    rw [exp2_sub (hs k), mul_right_comm, ← EReal.coe_mul]
    congr 2
    have h2 : (0 : ℝ) < 2 := by norm_num
    change ex (s k) * (2 : ℝ) ^ (-r) * (2 : ℝ) ^ (r - m) = ex (s k) * (2 : ℝ) ^ (-m)
    rw [mul_assoc, ← Real.rpow_add h2]
    congr 2; ring

/-- The merged quotient of the kernel is the reference's weighted sum. -/
theorem merge (s t v : Fin 4 → Fin 512 → EReal) (act : Fin 4 → Prop) [DecidablePred act] (P M L em : Fin 4 → EReal)
    (hs : ∀ c k, act c → Pair (s c k) (t c k))
    (hM : ∀ c, act c → M c = Finset.univ.fold max (⊥ : EReal) (t c))
    (hL : ∀ c, act c → L c = ∑ k, Ideal.exp2 (t c k - M c))
    (hP : ∀ c, act c → P c = ∑ k, Ideal.exp2 (t c k - M c) * v c k)
    (hem : ∀ c, em c = if act c then M c else ⊥)
    (hin : ∀ c k, ¬ act c → s c k = ⊥) (hex : ∃ c k, s c k ≠ ⊥) {mx μ : EReal}
    (hmx : mx = max (max (em 0) (em 1)) (max (em 2) (em 3))) (hμ : IsR μ) :
    Ideal.div (∑ c, P c * Ideal.exp2 (em c - mx)) (∑ c, L c * Ideal.exp2 (em c - mx))
      = ∑ c, ∑ k, v c k * Ideal.div (Ideal.exp (s c k - μ)) (∑ c, ∑ k, Ideal.exp (s c k - μ)) := by
  obtain ⟨c0, k0, h0⟩ := hex
  have ha0 : act c0 := by by_contra h; exact h0 (hin c0 k0 h)
  have hle : ∀ c, em c ≤ mx := by
    intro c; rw [hmx]; fin_cases c <;> simp
  have hnt : ∀ c, em c ≠ ⊤ := by
    intro c; rw [hem]; split
    · next h =>
        rw [hM c h]
        intro e
        rcases (Finset.le_fold_max (⊤ : EReal)).mp e.ge with h' | ⟨j, _, hj⟩
        · exact absurd (le_bot_iff.mp h') (by simp)
        · exact (hs c j h).ne_top (top_le_iff.mp hj)
    · simp
  have hmxR : IsR mx := by
    refine isR_of (fun e => ?_) (fun e => ?_)
    · have : em c0 = ⊥ := le_bot_iff.mp (e ▸ hle c0)
      rw [hem, if_pos ha0, hM c0 ha0] at this
      exact h0 ((hs c0 k0 ha0).bot_iff.mpr (fold_max_eq_bot this k0))
    · rw [hmx] at e
      rcases max_eq_iff.mp e with ⟨e, -⟩ | ⟨e, -⟩ <;> rcases max_eq_iff.mp e with ⟨e, -⟩ | ⟨e, -⟩ <;> exact hnt _ e
  obtain ⟨m, rfl⟩ := hmxR
  obtain ⟨u, rfl⟩ := hμ
  set w : ℝ := Real.rpow 2 (-m) with hw
  have hwp : 0 < w := Real.rpow_pos_of_pos (by norm_num) _
  have hnum : ∀ c, P c * Ideal.exp2 (em c - (m : EReal)) = ∑ k, ((ex (s c k) * w : ℝ) : EReal) * v c k := by
    intro c
    rw [hem]
    by_cases h : act c
    · rw [if_pos h, hP c h]
      exact chunk (s c) (t c) (v c) (fun k => hs c k h) m (hM c h)
    · rw [if_neg h]
      simp [hin c _ h, ex_bot]
  have hden : ∀ c, L c * Ideal.exp2 (em c - (m : EReal)) = ∑ k, ((ex (s c k) * w : ℝ) : EReal) := by
    intro c
    rw [hem]
    by_cases h : act c
    · rw [if_pos h, hL c h]
      have := chunk (s c) (t c) (fun _ => 1) (fun k => hs c k h) m (hM c h)
      simp only [mul_one] at this
      exact this
    · rw [if_neg h]
      simp [hin c _ h, ex_bot]
  have hpr : ∀ c k, Ideal.exp (s c k - (u : EReal)) = ((ex (s c k) * Real.exp (-u) : ℝ) : EReal) := by
    intro c k
    by_cases h : act c
    · exact exp_sub (hs c k h) u
    · rw [hin c k h]; simp [ex_bot]
  simp only [hnum, hden, hpr]
  simp only [← coe_sum]
  set S : ℝ := ∑ c, ∑ k, ex (s c k) with hS
  have hSp : 0 < S := by
    refine Finset.sum_pos' (fun c _ => Finset.sum_nonneg fun k _ => ex_nonneg _) ⟨c0, Finset.mem_univ _, ?_⟩
    refine Finset.sum_pos' (fun k _ => ex_nonneg _) ⟨k0, Finset.mem_univ _, ?_⟩
    rw [ex, if_neg h0]; exact Real.exp_pos _
  have e1 : ∀ a : ℝ, ∑ c, ∑ k, ex (s c k) * a = S * a := by
    intro a; simp only [hS, Finset.sum_mul]
  rw [e1, e1]
  have hu := Real.exp_pos (-u)
  have n1 : S * w ≠ 0 := (mul_pos hSp hwp).ne'
  have n2 : S * Real.exp (-u) ≠ 0 := (mul_pos hSp hu).ne'
  rw [Ideal.div_coe n1, sum_mul_coe _ _ (by positivity)]
  refine Finset.sum_congr rfl fun c _ => ?_
  rw [sum_mul_coe _ _ (by positivity)]
  refine Finset.sum_congr rfl fun k _ => ?_
  rw [Ideal.div_coe n2, mul_right_comm, ← EReal.coe_mul, ← EReal.coe_mul, mul_comm]
  congr 2
  field_simp

end Cert.Soft

end
-- ==== Proof.Consts.lean ====
/- The float constants that the two programs spell, as the extended reals their bit patterns denote. -/
module

public import Idealize.ShloMosaic.PureOps.Ideal

@[expose] public section

noncomputable section

namespace Cert.Consts

open Idealize.ShloMosaic

/-- The number of hidden entries of a row, which both programs divide by. -/
theorem ofBits_2048 : Ideal.ofBits .f32 0x45000000#32 = ((2048 : ℝ) : EReal) := by
  simp [Ideal.ofBits, Ideal.ieee, -EReal.coe_mul]; norm_num

/-- The head width, whose root the reference divides by. -/
theorem ofBits_128 : Ideal.ofBits .f32 0x43000000#32 = ((128 : ℝ) : EReal) := by
  simp [Ideal.ofBits, Ideal.ieee, -EReal.coe_mul]; norm_num

/-- Half the head width. -/
theorem ofBits_64 : Ideal.ofBits .f32 0x42800000#32 = ((64 : ℝ) : EReal) := by
  simp [Ideal.ofBits, Ideal.ieee, -EReal.coe_mul]; norm_num

/-- The base of the rotary frequencies. -/
theorem ofBits_10000 : Ideal.ofBits .f32 0x461C4000#32 = ((10000 : ℝ) : EReal) := by
  simp [Ideal.ofBits, Ideal.ieee, -EReal.coe_mul]; norm_num

/-- The term that the normalisation adds to the variance is a positive real. -/
theorem ofBits_eps : ∃ r : ℝ, 0 < r ∧ Ideal.ofBits .f32 0x3727C5AC#32 = (r : EReal) := by
  refine ⟨_, ?_, by simp [Ideal.ofBits, Ideal.ieee, -EReal.coe_mul]; rfl⟩
  norm_num

/-- The mask's value, negative infinity. -/
theorem ofBits_neg_inf : Ideal.ofBits .f32 0xFF800000#32 = (⊥ : EReal) := by
  simp [Ideal.ofBits, Ideal.ieee, -EReal.coe_mul]

/-- The bound that the condition on the weights compares with, positive infinity. -/
theorem ofBits_inf : Ideal.ofBits .f32 0x7F800000#32 = (⊤ : EReal) := by
  simp [Ideal.ofBits, Ideal.ieee, -EReal.coe_mul]

end Cert.Consts

end
-- ==== Proof.Spec.lean ====
/- What the two programs compute, in scalars: a normalised row, its projections, a rotated head, a masked scaled score,
   the softmax, the weighted values and the output projection.  Under finite query and key weights the rotated heads are
   real, whatever the hidden rows and the value weights are. -/
module

public import proofs.«01_k».proof.Proof.Soft
public import proofs.«01_k».proof.Proof.Consts

@[expose] public section

noncomputable section

namespace Cert.Spec

open Idealize.ShloMosaic Cert.Soft

/-- A row of 2048 extended reals. -/
abbrev Row := Fin 2048 → EReal

/-- An entry less the row's mean. -/
def ctr (x : Row) (d : Fin 2048) : EReal := x d - Ideal.div (∑ k, x k) (Ideal.ofBits .f32 0x45000000#32)

/-- The reciprocal of the row's spread. -/
def rstd (x : Row) : EReal :=
  Ideal.rsqrt (Ideal.div (∑ k, ctr x k * ctr x k) (Ideal.ofBits .f32 0x45000000#32) + Ideal.ofBits .f32 0x3727C5AC#32)

/-- An entry of the normalised row. -/
def ln (x : Row) (d : Fin 2048) : EReal := ctr x d * rstd x

/-- A projected row. -/
def proj (x : Row) (w : Fin 2048 → Fin 6144 → EReal) (e : Fin 6144) : EReal := ∑ k, ln x k * w k e

/-- The rotary frequency of a pair of lanes. -/
def freq (j : Fin 64) : EReal :=
  Ideal.div 1 (Ideal.pow (Ideal.ofBits .f32 0x461C4000#32)
    (Ideal.div (FloatOps.sitofp (F := Ideal) .f32 (BitVec.ofNat 32 j.val)) (Ideal.ofBits .f32 0x42800000#32)))

/-- The rotation angle at a position. -/
def ang (p : BitVec 32) (j : Fin 64) : EReal := FloatOps.sitofp (F := Ideal) .f32 p * freq j

/-- A head of 128 lanes, each lane of the first half rotated with its partner in the second, by these cosines and sines. -/
def rotT (y : Fin 128 → EReal) (co si : Fin 64 → EReal) (l : Fin 128) : EReal :=
  if h : l.val < 64 then y l * co ⟨l.val, h⟩ - y ⟨64 + l.val, by omega⟩ * si ⟨l.val, h⟩
  else y l * co ⟨l.val - 64, by omega⟩ + y ⟨l.val - 64, by omega⟩ * si ⟨l.val - 64, by omega⟩

/-- A head rotated by these angles. -/
def rot (y : Fin 128 → EReal) (a : Fin 64 → EReal) : Fin 128 → EReal :=
  rotT y (fun j => Ideal.cos (a j)) (fun j => Ideal.sin (a j))

/-- The column of the projection that holds lane `l` of head `h` of the queries, keys or values. -/
def col (o : Fin 3) (h : Fin 16) (l : Fin 128) : Fin 6144 := ⟨o.val * 2048 + (h.val * 128 + l.val), by omega⟩

/-- A rotated head. -/
def head (o : Fin 3) (x : Row) (w : Fin 2048 → Fin 6144 → EReal) (p : BitVec 32) (h : Fin 16) : Fin 128 → EReal :=
  rot (fun l => proj x w (col o h l)) (ang p)

/-- The factor of a score. -/
def scale : EReal := Ideal.div 1 (Ideal.sqrt (Ideal.ofBits .f32 0x43000000#32))

/-- The masked scaled score of a query and a key. -/
def score (q k : Fin 2048 → Fin 128 → EReal) (i j : Fin 2048) : EReal :=
  if j.val ≤ i.val then (∑ d, q i d * k j d) * scale else ⊥

/-- The largest of a row. -/
def top (s : Row) : EReal := Finset.univ.fold max (⊥ : EReal) s

/-- The softmax of a row. -/
def soft (s : Row) (j : Fin 2048) : EReal := Ideal.div (Ideal.exp (s j - top s)) (∑ j, Ideal.exp (s j - top s))

/-- A query's weighted values. -/
def attn (q k v : Fin 2048 → Fin 128 → EReal) (i : Fin 2048) (d : Fin 128) : EReal :=
  ∑ j, v j d * soft (score q k i) j

/-- The weighted values of a batch, heads side by side. -/
def mixed (X : Fin 2048 → Row) (w : Fin 2048 → Fin 6144 → EReal) (p : Fin 2048 → BitVec 32) (i : Fin 2048) : Row :=
  fun d => attn (fun j => head 0 (X j) w (p j) ⟨d.val / 128, by omega⟩) (fun j => head 1 (X j) w (p j) ⟨d.val / 128, by omega⟩)
    (fun j l => proj (X j) w (col 2 ⟨d.val / 128, by omega⟩ l)) i ⟨d.val % 128, by omega⟩

/-- The output projection. -/
def out (a : Row) (w : Fin 2048 → Fin 2048 → EReal) (e : Fin 2048) : EReal := ∑ d, a d * w d e

/-! ## Which of these are real -/

theorem sum_top {ι : Type*} (S : Finset ι) (f : ι → EReal) (h0 : ∀ i ∈ S, 0 ≤ f i) {i : ι} (hi : i ∈ S) (ht : f i = ⊤) :
    ∑ i ∈ S, f i = ⊤ :=
  top_le_iff.mp (ht ▸ Finset.single_le_sum h0 hi)

theorem sq_nonneg (x : EReal) : 0 ≤ x * x := by
  induction x with
  | bot => simp
  | top => simp
  | coe r => rw [← EReal.coe_mul]; exact EReal.coe_nonneg.mpr (mul_self_nonneg r)

/-- A normalised entry is real: of a row with an infinite entry the spread is infinite and every entry is zero. -/
theorem ln_isR (x : Row) (d : Fin 2048) : IsR (ln x d) := by
  obtain ⟨ε, hε, he⟩ := Consts.ofBits_eps
  by_cases hx : ∀ k, IsR (x k)
  · have hc : ∀ k, IsR (ctr x k) := fun k => by
      unfold ctr; rw [Consts.ofBits_2048]
      exact (hx k).sub (IsR.div (by norm_num) (IsR.sum _ fun k _ => hx k))
    choose c hc using hc
    have hd : IsR (ctr x d) := ⟨_, hc d⟩
    refine hd.mul ?_
    unfold rstd
    rw [Consts.ofBits_2048, he]
    simp only [hc, ← EReal.coe_mul, ← coe_sum]
    rw [Ideal.div_coe (by norm_num), ← EReal.coe_mul, ← EReal.coe_add, Ideal.rsqrt_coe]
    have h0 : 0 ≤ (∑ k, c k * c k) * (1 / 2048) := by
      refine mul_nonneg (Finset.sum_nonneg fun k _ => mul_self_nonneg _) (by norm_num)
    rw [if_neg (by linarith), if_neg (by linarith)]
    exact IsR.coe _
  · push Not at hx
    obtain ⟨k, hk⟩ := hx
    have ht : ctr x k * ctr x k = ⊤ := by
      have h : x k = ⊥ ∨ x k = ⊤ := by
        by_contra h; push Not at h; exact hk (isR_of h.1 h.2)
      unfold ctr
      generalize Ideal.div (∑ k, x k) _ = μ
      rcases h with h | h <;> rw [h]
      · rw [EReal.bot_sub]; simp
      · induction μ with
        | bot => simp
        | top => simp
        | coe r => simp
    have hr : rstd x = 0 := by
      unfold rstd
      rw [sum_top _ _ (fun i _ => sq_nonneg (ctr x i)) (Finset.mem_univ k) ht, Consts.ofBits_2048, he,
        Ideal.div_coe (by norm_num), EReal.top_mul_coe_of_pos (by norm_num), EReal.top_add_coe]
      rfl
    unfold ln
    rw [hr, mul_zero]
    exact IsR.zero

theorem proj_isR (x : Row) (w : Fin 2048 → Fin 6144 → EReal) (e : Fin 6144) (h : ∀ k, IsR (w k e)) :
    IsR (proj x w e) :=
  IsR.sum _ fun k _ => (ln_isR x k).mul (h k)

theorem freq_isR (j : Fin 64) : IsR (freq j) := by
  unfold freq
  rw [Consts.ofBits_10000, Consts.ofBits_64, show FloatOps.sitofp (F := Ideal) .f32 (BitVec.ofNat 32 j.val)
    = (((BitVec.ofNat 32 j.val).toInt : ℝ) : EReal) from rfl, Ideal.div_coe (by norm_num), ← EReal.coe_mul,
    Ideal.pow_coe_coe]
  exact IsR.div (Real.rpow_pos_of_pos (by norm_num) _).ne' (IsR.coe 1)

theorem ang_isR (p : BitVec 32) (j : Fin 64) : IsR (ang p j) :=
  (IsR.coe (p.toInt : ℝ)).mul (freq_isR j)

theorem cos_isR {x : EReal} (h : IsR x) : IsR (Ideal.cos x) := by obtain ⟨r, rfl⟩ := h; exact ⟨_, rfl⟩
theorem sin_isR {x : EReal} (h : IsR x) : IsR (Ideal.sin x) := by obtain ⟨r, rfl⟩ := h; exact ⟨_, rfl⟩

theorem rot_isR (y : Fin 128 → EReal) (a : Fin 64 → EReal) (hy : ∀ l, IsR (y l)) (ha : ∀ j, IsR (a j)) (l : Fin 128) :
    IsR (rot y a l) := by
  unfold rot rotT
  split
  · exact ((hy _).mul (cos_isR (ha _))).sub ((hy _).mul (sin_isR (ha _)))
  · exact ((hy _).mul (cos_isR (ha _))).add ((hy _).mul (sin_isR (ha _)))

/-- A rotated head of queries or keys is real when its weights are. -/
theorem head_isR (o : Fin 3) (ho : o.val < 2) (x : Row) (w : Fin 2048 → Fin 6144 → EReal) (p : BitVec 32) (h : Fin 16)
    (hw : ∀ (k : Fin 2048) (e : Fin 6144), e.val < 4096 → IsR (w k e)) (l : Fin 128) : IsR (head o x w p h l) :=
  rot_isR _ _ (fun l => proj_isR x w _ fun k => hw k _ (by have := h.isLt; have := l.isLt; show o.val * 2048 + _ < _; omega))
    (ang_isR p) l

theorem scale_eq : scale = (((Real.sqrt 128)⁻¹ : ℝ) : EReal) := by
  unfold scale
  rw [Consts.ofBits_128, Ideal.sqrt_coe, if_neg (by norm_num), Ideal.div_coe (by positivity), one_mul, one_div]

end Cert.Spec

end
-- ==== Proof.KHost.lean ====
/- What the kernel's host operations leave in the calls' operands, read at an index. -/
module

public import proofs.«01_k».proof.Proof.Run
public import proofs.«01_k».proof.Proof.Spec
public import proofs.«01_k».proof.Proof.Consts
public import Idealize.ShloMosaic.Lib.StableHlo.ReadAt
public import Idealize.ShloMosaic.Lib.Pointwise

@[expose] public section

set_option maxRecDepth 16384

noncomputable section

namespace Cert.KernelIdeal.Host

open Cert.KernelIdeal.Gen
open Idealize.ShloMosaic Idealize.ShloMosaic.TcCoe

variable (m : (ℓ : Loc nD τ sig) → Buf (Elt Ideal) ℓ)

/-- The hidden states, row by row. -/
theorem x_at (c : Dev nD) (b : Fin 2) (s d : Fin 2048) :
    (V1 m c main_v0 (ix2 ⟨b.val * 2048 + s.val, by omega⟩ d : S4096x2048.Idx) : EReal)
      = m ((c : Thread nD τ).loc main_arg1) (ix3 b s d) := by
  unfold V1
  after_reads_at

theorem w_at (c : Dev nD) (k : Fin 2048) (e : Fin 6144) :
    (V1 m c main_v18 (ix2 k e : S2048x6144.Idx) : EReal) = m ((c : Thread nD τ).loc main_arg2) (ix2 k e) := by
  unfold V1
  after_reads_at

theorem cos_at (c : Dev nD) (b : Fin 2) (s : Fin 2048) (j : Fin 64) :
    (V1 m c main_v17 (ix2 ⟨b.val * 2048 + s.val, by omega⟩ ⟨j.val, by omega⟩ : S4096x128.Idx) : EReal)
      = Ideal.cos (Spec.ang (m ((c : Thread nD τ).loc main_arg0) (ix2 b s)) j) := by
  unfold V1
  after_reads_at
  have h : (ix2 ⟨(b.val * 2048 + s.val) / 2048, by omega⟩ ⟨(b.val * 2048 + s.val) % 2048, by omega⟩ : S2x2048.Idx) = ix2 b s := by
    have h1 : (⟨(b.val * 2048 + s.val) / 2048, by omega⟩ : Fin 2) = b := Fin.ext (by show _ / _ = _; omega)
    have h2 : (⟨(b.val * 2048 + s.val) % 2048, by omega⟩ : Fin 2048) = s := Fin.ext (by show _ % _ = _; omega)
    rw [h1, h2]
  rw [h]
  rfl

theorem sin_at (c : Dev nD) (b : Fin 2) (s : Fin 2048) (j : Fin 64) :
    (V1 m c main_v17 (ix2 ⟨b.val * 2048 + s.val, by omega⟩ ⟨64 + j.val, by omega⟩ : S4096x128.Idx) : EReal)
      = Ideal.sin (Spec.ang (m ((c : Thread nD τ).loc main_arg0) (ix2 b s)) j) := by
  unfold V1
  after_reads_at
  have h : (ix2 ⟨(b.val * 2048 + s.val) / 2048, by omega⟩ ⟨(b.val * 2048 + s.val) % 2048, by omega⟩ : S2x2048.Idx) = ix2 b s := by
    have h1 : (⟨(b.val * 2048 + s.val) / 2048, by omega⟩ : Fin 2) = b := Fin.ext (by show _ / _ = _; omega)
    have h2 : (⟨(b.val * 2048 + s.val) % 2048, by omega⟩ : Fin 2048) = s := Fin.ext (by show _ % _ = _; omega)
    rw [h1, h2]
  rw [h]
  rfl

theorem a_at (c : Dev nD) (b : Fin 2) (s d : Fin 2048) :
    (Run.W4 m c main_v21 (ix2 ⟨b.val * 2048 + s.val, by omega⟩ d : S4096x2048.Idx) : EReal)
      = Run.o3 m c (ix3 b s d : S2x2048x2048.Idx) := by
  unfold Run.W4
  rw [← Run.W3_same]
  generalize Run.W3 m c = V
  after_reads_at

theorem wo_at (c : Dev nD) (k e : Fin 2048) :
    (Run.W4 m c main_v22 (ix2 k e : S2048x2048.Idx) : EReal) = m ((c : Thread nD τ).loc main_arg3) (ix2 k e) := by
  unfold Run.W4
  have h : Run.W3 m c main_arg3 = m ((c : Thread nD τ).loc main_arg3) :=
    (Run.W3_ne m c _ (by decide)).trans ((Run.W2_ne m c _ (by decide)).trans ((V1_of m c _ (by decide)).trans rfl))
  rw [← h]
  generalize Run.W3 m c = V
  after_reads_at

theorem y_at (c : Dev nD) (b : Fin 2) (s e : Fin 2048) :
    (V6 m (Run.outs m) c main_v24 (ix3 b s e : S2x2048x2048.Idx) : EReal)
      = Run.o5 m c (ix2 ⟨b.val * 2048 + s.val, by omega⟩ e : S4096x2048.Idx) := by
  unfold V6
  rw [Run.V5_eq, ← Run.W5_same]
  generalize Run.W5 m c = V
  after_reads_at

end Cert.KernelIdeal.Host

end
-- ==== Proof.R0Val.lean ====
/- What the first call writes at a point, read at an index: the values are the projections of the normalised rows, the
   queries and keys the projections rotated head by head. -/
module

public import proofs.«01_k».proof.Proof.R0Dat
public import proofs.«01_k».proof.Proof.Over
public import proofs.«01_k».proof.Proof.Spec
public import Idealize.ShloMosaic.Lib.Pointwise
public import Idealize.ShloMosaic.Lib.Pipeline.ValueKit.Basic

@[expose] public section

set_option maxRecDepth 16384

noncomputable section

namespace Cert.KernelIdeal.R0

open Cert.KernelIdeal.Gen
open Idealize.ShloMosaic Idealize.ShloMosaic.TcCoe

/-- The rotated head at column `o` of a half's projection. -/
def headOf (o : ℕ) (ho : S1024x1024.Slices ![0, o] S1024x128) (y : FVec Ideal S1024x1024 .f32) (a b : Vec Ideal S1024x64 .f32) :
    FVec Ideal S1024x128 .f32 :=
  addf (mulf (extractStridedSlice S1024x128 ![0, o] y ho) (k0_pay8 a))
    (mulf (dynamicRotate 1 64#32 none (extractStridedSlice S1024x128 ![0, o] y ho) rotates_S1024x128_d1) (k0_pay9 b))

theorem mul_zero_sub (x y : EReal) : x * (0 - y) = -(x * y) := by
  rw [zero_sub, mul_neg]

theorem headOf_apply (o : ℕ) (ho : S1024x1024.Slices ![0, o] S1024x128) (y : FVec Ideal S1024x1024 .f32) (a b : Vec Ideal S1024x64 .f32)
    (hb : o + 128 ≤ 1024) (r : Fin 1024) (l : Fin 128) :
    headOf o ho y a b (ix2 r l)
      = Spec.rotT (fun l => y (ix2 r ⟨o + l.val, by omega⟩)) (fun j => a (ix2 r j)) (fun j => b (ix2 r j)) l := by
  pointwise [headOf, k0_pay8, k0_pay9]
  unfold Spec.rotT
  by_cases h : l.val < 64
  · simp only [dif_pos h, mul_zero_sub]
    rw [← sub_eq_add_neg]
    have e : (l.val + 128 - 64) % 128 = 64 + l.val := by omega
    simp only [e]
  · simp only [dif_neg h]
    have e : (l.val + 128 - 64) % 128 = l.val - 64 := by omega
    simp only [e]

/-- The same, read at the column `e` of the half. -/
theorem headOf_at {o : ℕ} (ho : S1024x1024.Slices ![0, o] S1024x128) (y : FVec Ideal S1024x1024 .f32) (a b : Vec Ideal S1024x64 .f32)
    (r e : Fin 1024) (hoe : o = e.val / 128 * 128) (l : Fin 128) (hl : l.val = e.val % 128) :
    headOf o ho y a b (ix2 r l)
      = Spec.rotT (fun l => y (ix2 r ⟨e.val / 128 * 128 + l.val, by omega⟩)) (fun j => a (ix2 r j)) (fun j => b (ix2 r j))
          ⟨e.val % 128, by omega⟩ := by
  subst hoe
  refine (headOf_apply _ ho y a b (by omega) r l).trans ?_
  exact congrArg (Spec.rotT _ _ _) (Fin.ext hl)

/-- A half's rotated heads, side by side. -/
theorem ropeLo_apply (y : FVec Ideal S1024x1024 .f32) (a b : Vec Ideal S1024x64 .f32) (r e : Fin 1024) :
    ropeLo y a b (ix4 0 0 r e)
      = Spec.rotT (fun l => y (ix2 r ⟨e.val / 128 * 128 + l.val, by omega⟩)) (fun j => a (ix2 r j)) (fun j => b (ix2 r j))
          ⟨e.val % 128, by omega⟩ := by
  have last : ∀ l, k0_pay18 y a (ix2 r l) + k0_pay19 y b (ix2 r l)
      = headOf 896 slices_S1024x1024_o0_896_S1024x128 y a b (ix2 r l) := fun _ => rfl
  pointwise [ropeLo, k0_pay3]
  split
  · exact headOf_at slices_S1024x1024_o0_0_S1024x128 y a b r e (by omega) _ (by show e.val = _; omega)
  split
  · exact headOf_at slices_S1024x1024_o0_128_S1024x128 y a b r e (by omega) _ (by show _ - _ = _; omega)
  split
  · exact headOf_at slices_S1024x1024_o0_256_S1024x128 y a b r e (by omega) _ (by show _ - _ = _; omega)
  split
  · exact headOf_at slices_S1024x1024_o0_384_S1024x128 y a b r e (by omega) _ (by show _ - _ = _; omega)
  split
  · exact headOf_at slices_S1024x1024_o0_512_S1024x128 y a b r e (by omega) _ (by show _ - _ = _; omega)
  split
  · exact headOf_at slices_S1024x1024_o0_640_S1024x128 y a b r e (by omega) _ (by show _ - _ = _; omega)
  split
  · exact headOf_at slices_S1024x1024_o0_768_S1024x128 y a b r e (by omega) _ (by show _ - _ = _; omega)
  exact (last _).trans (headOf_at slices_S1024x1024_o0_896_S1024x128 y a b r e (by omega) _ (by show _ - _ = _; omega))

theorem ropeHi_eq (y : FVec Ideal S1024x1024 .f32) (a b : Vec Ideal S1024x64 .f32) : ropeHi y a b = ropeLo y a b := rfl

/-- The normalised rows of a block. -/
theorem xnOf_apply (x : Vec Ideal S1024x2048 .f32) (r : Fin 1024) (d : Fin 2048) :
    xnOf x (ix2 r d) = Spec.ln (fun k => x (ix2 r k)) d := by
  unfold xnOf
  rw [View.canon_cons_unit_lit _ _ _ (by decide)]
  pointwise [k0_pay1]
  rfl

theorem yLo_apply (s : Vec Ideal S1024x2048 .bf16) (x1 : Vec Ideal S2048x2048 .bf16) (r e : Fin 1024) :
    yLo s x1 (ix2 r e) = ∑ k : Fin 2048, s (ix2 r k) * x1 (ix2 k ⟨e.val, by omega⟩) := by
  pointwise [yLo, k0_pay2]

theorem yHi_apply (s : Vec Ideal S1024x2048 .bf16) (x1 : Vec Ideal S2048x2048 .bf16) (r e : Fin 1024) :
    yHi s x1 (ix2 r e) = ∑ k : Fin 2048, s (ix2 r k) * x1 (ix2 k ⟨1024 + e.val, by omega⟩) := by
  pointwise [yHi, k0_pay5]

theorem plainLo_apply (s : Vec Ideal S1024x2048 .bf16) (x1 : Vec Ideal S2048x2048 .bf16) (r e : Fin 1024) :
    k0_pay4 (View.ld s rA) (View.ld x1 wLo) (ix4 0 0 r e) = yLo s x1 (ix2 r e) := by
  pointwise [k0_pay4, yLo]

theorem plainHi_apply (s : Vec Ideal S1024x2048 .bf16) (x1 : Vec Ideal S2048x2048 .bf16) (r e : Fin 1024) :
    k0_pay7 (View.ld s rA) (View.ld x1 wHi) (ix4 0 0 r e) = yHi s x1 (ix2 r e) := by
  pointwise [k0_pay7, yHi]

theorem csLo_apply (x2 : Vec Ideal S1024x128 .f32) (r : Fin 1024) (j : Fin 64) :
    View.ld x2 csLo (ix2 r j) = x2 (ix2 r ⟨j.val, by omega⟩) := by
  pointwise

theorem csHi_apply (x2 : Vec Ideal S1024x128 .f32) (r : Fin 1024) (j : Fin 64) :
    View.ld x2 csHi (ix2 r j) = x2 (ix2 r ⟨64 + j.val, by omega⟩) := by
  pointwise

theorem lanes_lo (x2 : Vec Ideal S1024x128 .f32) (r : Fin 1024) :
    (fun j : Fin 64 => View.ld x2 csLo (ix2 r j)) = fun j => x2 (ix2 r ⟨j.val, by omega⟩) := funext (csLo_apply x2 r)

theorem lanes_hi (x2 : Vec Ideal S1024x128 .f32) (r : Fin 1024) :
    (fun j : Fin 64 => View.ld x2 csHi (ix2 r j)) = fun j => x2 (ix2 r ⟨64 + j.val, by omega⟩) := funext (csHi_apply x2 r)

theorem idx_hi (r : Fin 1024) (e : Fin 2048) (h : ¬ e.val < 1024) :
    (ix4 0 0 r e : S1x1x1024x2048.Idx) = oHi.emb (ix4 0 0 r ⟨e.val - 1024, by omega⟩ : S1x1x1024x1024.Idx) := by
  funext a
  fin_cases a
  · rfl
  · rfl
  · exact Fin.ext (show r.val = 0 + 1 * r.val by omega)
  · exact Fin.ext (show e.val = 1024 + 1 * (e.val - 1024) by omega)

theorem idx_lo (r : Fin 1024) (e : Fin 2048) (h : e.val < 1024) :
    (ix4 0 0 r e : S1x1x1024x2048.Idx) = oLo.emb (ix4 0 0 r ⟨e.val, h⟩ : S1x1x1024x1024.Idx) := by
  funext a
  fin_cases a
  · rfl
  · rfl
  · exact Fin.ext (show r.val = 0 + 1 * r.val by omega)
  · exact Fin.ext (show e.val = 0 + 1 * e.val by omega)

theorem not_hi (r : Fin 1024) (e : Fin 2048) (h : e.val < 1024) : (ix4 0 0 r e : S1x1x1024x2048.Idx) ∉ oHi.set := by
  intro hm
  have := (Rect.mem_set_unit.mp hm 3).1
  exact absurd this (by show ¬ 1024 ≤ e.val; omega)

/-- A block written half by half. -/
theorem halves (p q : Vec Ideal S1x1x1024x1024 .bf16) (r : Fin 1024) (e : Fin 2048) :
    View.canon (Val := Elt Ideal) (e := .bf16) [⟨oHi, p⟩, ⟨oLo, q⟩] (ix4 0 0 r e : S1x1x1024x2048.Idx)
      = if h : e.val < 1024 then q (ix4 0 0 r ⟨e.val, h⟩) else p (ix4 0 0 r ⟨e.val - 1024, by omega⟩) := by
  split
  · next h => exact (Aux.canon_off oHi p _ (not_hi r e h)).trans (Aux.canon_at oLo q [] _ (idx_lo r e h))
  · next h => exact Aux.canon_at oHi p _ _ (idx_hi r e h)

/-- The values' block. -/
theorem outPlain_apply (s : Vec Ideal S1024x2048 .bf16) (x1 : Vec Ideal S2048x2048 .bf16) (r : Fin 1024) (e : Fin 2048) :
    outPlain s x1 (ix4 0 0 r e) = ∑ k : Fin 2048, s (ix2 r k) * x1 (ix2 k e) := by
  unfold outPlain
  rw [halves]
  split
  · rw [plainLo_apply, yLo_apply]
  · next h =>
    rw [plainHi_apply, yHi_apply]
    have e' : (⟨1024 + (e.val - 1024), by omega⟩ : Fin 2048) = e := Fin.ext (by show 1024 + (e.val - 1024) = e.val; omega)
    simp only [e']

/-- The queries' and the keys' block. -/
theorem outRope_apply (s : Vec Ideal S1024x2048 .bf16) (x1 : Vec Ideal S2048x2048 .bf16) (x2 : Vec Ideal S1024x128 .f32)
    (r : Fin 1024) (e : Fin 2048) :
    outRope s x1 x2 (ix4 0 0 r e)
      = Spec.rotT (fun l => ∑ k : Fin 2048, s (ix2 r k) * x1 (ix2 k ⟨e.val / 128 * 128 + l.val, by omega⟩))
          (fun j => x2 (ix2 r ⟨j.val, by omega⟩)) (fun j => x2 (ix2 r ⟨64 + j.val, by omega⟩)) ⟨e.val % 128, by omega⟩ := by
  unfold outRope
  rw [halves]
  split
  · rw [ropeLo_apply]
    simp only [yLo_apply]
    rw [lanes_lo, lanes_hi]
  · next h =>
    rw [ropeHi_eq, ropeLo_apply]
    simp only [yHi_apply]
    rw [lanes_lo, lanes_hi]
    have e1 : (e.val - 1024) % 128 = e.val % 128 := by omega
    have e2 : ∀ l : ℕ, 1024 + ((e.val - 1024) / 128 * 128 + l) = e.val / 128 * 128 + l := fun l => by omega
    simp only [e1, e2]

end Cert.KernelIdeal.R0

end
-- ==== Proof.R0Arr.lean ====
/- The first call's result, element by element, over the contents of the buffers it is entered with. -/
module

public import proofs.«01_k».proof.Proof.R0Val
public import Idealize.ShloMosaic.Lib.Pipeline.Value
public import Idealize.ShloMosaic.Lib.Pipeline.ValueKit

@[expose] public section

set_option maxRecDepth 16384

noncomputable section

namespace Cert.KernelIdeal.R0

open Cert.KernelIdeal.Gen
open Idealize.ShloMosaic Idealize.ShloMosaic.TcCoe
open Idealize.ShloMosaic.Pipeline (Dat Cfg Window)

variable (V : (c : Dev nD) → (b : Ref sig .tc) → Buf (Elt Ideal) ((c : Thread nD τ).loc b))

theorem idx0 : ∀ t : Fin cfg0.N, win0_0.index t = ![t.val / 3, 0] :=
  (by decide +kernel : ∀ t : Fin grid0.N, win0_0.index t = ![t.val / 3, 0])
theorem idx1 : ∀ t : Fin cfg0.N, win0_1.index t = ![0, t.val % 3] :=
  (by decide +kernel : ∀ t : Fin grid0.N, win0_1.index t = ![0, t.val % 3])
theorem idx2 : ∀ t : Fin cfg0.N, win0_2.index t = ![t.val / 3, 0] :=
  (by decide +kernel : ∀ t : Fin grid0.N, win0_2.index t = ![t.val / 3, 0])
theorem idx3 : ∀ t : Fin cfg0.N, win0_3.index t = ![t.val % 3, t.val / 6, t.val / 3 % 2, 0] :=
  (by decide +kernel : ∀ t : Fin grid0.N, win0_3.index t = ![t.val % 3, t.val / 6, t.val / 3 % 2, 0])

theorem lt_N (t : Fin cfg0.N) : t.val < 12 := lt_of_lt_of_eq t.isLt (show cfg0.N = 12 from N_0)

theorem blk0 (c : Dev nD) (t : Fin cfg0.N) (r : Fin 1024) (d : Fin 2048) :
    iblk V c 0 t (ix2 r d) = V c main_v0 (ix2 ⟨t.val / 3 * 1024 + r.val, by have := lt_N t; omega⟩ d) := by
  blk_ext [iblk, idx0 t]

theorem blk1 (c : Dev nD) (t : Fin cfg0.N) (k e : Fin 2048) :
    iblk V c 1 t (ix2 k e) = V c main_v18 (ix2 k ⟨t.val % 3 * 2048 + e.val, by have := lt_N t; omega⟩) := by
  blk_ext [iblk, idx1 t]

theorem blk2 (c : Dev nD) (t : Fin cfg0.N) (r : Fin 1024) (d : Fin 128) :
    iblk V c 2 t (ix2 r d) = V c main_v17 (ix2 ⟨t.val / 3 * 1024 + r.val, by have := lt_N t; omega⟩ d) := by
  blk_ext [iblk, idx2 t]

theorem idx_inj3 : ∀ t t' : Fin cfg0.N, win0_3.index t = win0_3.index t' → t = t' :=
  (by decide +kernel : ∀ t t' : Fin grid0.N, win0_3.index t = win0_3.index t' → t = t')

theorem disjoint3 : ∀ t t' : Fin cfg0.N, (cfg0.win 3).flush t = true → (cfg0.win 3).flush t' = true → t ≠ t' →
    Disjoint ((cfg0.win 3).blk t).view.set ((cfg0.win 3).blk t').view.set :=
  fun t t' _ _ hne => (cfg0.win 3).disjoint_blk fun h => hne (idx_inj3 t t' h)

/-- The point that writes the rows' third `j`. -/
def pt (j : Fin 3) (b : Fin 2) (s : Fin 2048) : Fin cfg0.N :=
  ⟨(b.val * 2 + s.val / 1024) * 3 + j.val, lt_of_lt_of_eq (b := 12) (by omega) (show 12 = cfg0.N from N_0.symm)⟩

/-- The call's result. -/
def res (c : Dev nD) : S3x2x2048x2048.Idx → EReal := (dat V c).arrAt 3 cfg0.N

/-- The result at an element is what its point's body leaves there. -/
theorem arr_at (c : Dev nD) (j : Fin 3) (b : Fin 2) (s e : Fin 2048) :
    res V c (ix4 j b s e)
      = (outAt V c (pt j b s) (ix4 0 0 ⟨s.val % 1024, by omega⟩ e : S1x1x1024x2048.Idx) : EReal) := by
  have key := (dat V c).arrAt_emb_eq_flushed 3 disjoint3 (pt j b s) (flush0_3 _) (ix4 0 0 ⟨s.val % 1024, by omega⟩ e : S1x1x1024x2048.Idx)
  have hi : (ix4 j b s e : S3x2x2048x2048.Idx)
      = ((cfg0.win 3).blk (pt j b s)).view.emb (ix4 0 0 ⟨s.val % 1024, by omega⟩ e : S1x1x1024x2048.Idx) := by
    have ht : (pt j b s).val = (b.val * 2 + s.val / 1024) * 3 + j.val := rfl
    clear key
    generalize pt j b s = t at ht ⊢
    blk_ext [idx3 t]
  unfold res
  rw [hi]
  refine key.trans ?_
  show (dat V c).after 3 (pt j b s) _ = _
  rw [after3]
  rfl

/-- The rows' values: projections of the normalised rows. -/
theorem arr_plain (c : Dev nD) (b : Fin 2) (s e : Fin 2048) :
    res V c (ix4 2 b s e)
      = Spec.proj (fun d => V c main_v0 (ix2 ⟨b.val * 2048 + s.val, by omega⟩ d)) (fun k e => V c main_v18 (ix2 k e))
          ⟨2 * 2048 + e.val, by omega⟩ := by
  have ht : (pt 2 b s).val = (b.val * 2 + s.val / 1024) * 3 + 2 := rfl
  rw [arr_at]
  generalize pt 2 b s = t at ht ⊢
  have h3 : t.val % 3 = 2 := by omega
  have h4 : t.val / 3 * 1024 + s.val % 1024 = b.val * 2048 + s.val := by omega
  rw [outAt, if_neg (by omega), outPlain_apply]
  unfold Spec.proj xnAt
  refine Finset.sum_congr rfl fun k _ => ?_
  rw [xnOf_apply, blk1]
  simp only [blk0, h3, h4]

/-- The rows' queries and keys: their projections, rotated. -/
theorem arr_rope (c : Dev nD) (j : Fin 3) (hj : j.val < 2) (b : Fin 2) (s e : Fin 2048) :
    res V c (ix4 j b s e)
      = Spec.rotT (fun l => Spec.proj (fun d => V c main_v0 (ix2 ⟨b.val * 2048 + s.val, by omega⟩ d)) (fun k e => V c main_v18 (ix2 k e))
            ⟨j.val * 2048 + (e.val / 128 * 128 + l.val), by omega⟩)
          (fun i => V c main_v17 (ix2 ⟨b.val * 2048 + s.val, by omega⟩ ⟨i.val, by omega⟩))
          (fun i => V c main_v17 (ix2 ⟨b.val * 2048 + s.val, by omega⟩ ⟨64 + i.val, by omega⟩)) ⟨e.val % 128, by omega⟩ := by
  have ht : (pt j b s).val = (b.val * 2 + s.val / 1024) * 3 + j.val := rfl
  rw [arr_at]
  generalize pt j b s = t at ht ⊢
  have h3 : t.val % 3 = j.val := by omega
  have h4 : t.val / 3 * 1024 + s.val % 1024 = b.val * 2048 + s.val := by omega
  rw [outAt, if_pos (by omega), outRope_apply]
  unfold Spec.proj xnAt
  simp only [xnOf_apply, blk0, blk1, blk2, h3, h4]

end Cert.KernelIdeal.R0

end
-- ==== Proof.R1Val.lean ====
/- The attention's stores and its merge at a point, read at an index: over the rows of queries, keys and values that the
   point's blocks are cut from. -/
module

public import proofs.«01_k».proof.Proof.R1Dat
public import proofs.«01_k».proof.Proof.Spec
public import proofs.«01_k».proof.Proof.Consts
public import Idealize.ShloMosaic.Lib.WordCmp
public import Idealize.ShloMosaic.Lib.Pointwise
public import Idealize.ShloMosaic.Lib.Pipeline.ValueKit.Basic
public import Idealize.ShloMosaic.Lib.Pipeline.ValueKit.Geometry

@[expose] public section

set_option maxRecDepth 16384

noncomputable section

namespace Cert.KernelIdeal.R1

open Cert.KernelIdeal.Gen Cert.Aux
open Idealize.ShloMosaic Idealize.ShloMosaic.TcCoe

/-- The rows of one head. -/
abbrev Rows := Fin 2048 → Fin 128 → EReal

/-- The factor the queries are multiplied by. -/
def kap : EReal := (((Real.sqrt 128)⁻¹ * (Real.log 2)⁻¹ : ℝ) : EReal)

theorem named_scale : (Named.named (F := Ideal) κ "scale" (φ := .bf16) 0x3E03#16 : EReal) = kap :=
  IdealRules.named_const.ideal_named_scalar _ _ _ _ rfl
theorem named_mask : (Named.named (F := Ideal) κ "mask" (φ := .f32) 0xF149F2CA#32 : EReal) = ⊥ :=
  IdealRules.named_const.ideal_named_scalar _ _ _ _ rfl

/-- Row `r` of the `n`-th 512 rows. -/
def row (n : Fin 4) (r : Fin 512) : Fin 2048 := ⟨n.val * 512 + r.val, by omega⟩
/-- The slot of a block's chunk. -/
def slot (kb c : Fin 2) : Fin 4 := ⟨kb.val * 2 + c.val, by omega⟩

/-- The masked score, in the kernel's units. -/
def T (q k : Rows) (i j : Fin 2048) : EReal := if j.val ≤ i.val then ∑ d, q i d * kap * k j d else ⊥
/-- The largest score of a chunk of keys, -/
def Mx (q k : Rows) (i : Fin 2048) (s : Fin 4) : EReal := Finset.univ.fold max (⊥ : EReal) fun n => T q k i (row s n)
/-- the chunk's sum of weights, -/
def Ls (q k : Rows) (i : Fin 2048) (s : Fin 4) : EReal := ∑ n, Ideal.exp2 (T q k i (row s n) - Mx q k i s)
/-- and its weighted values. -/
def Ps (q k v : Rows) (i : Fin 2048) (s : Fin 4) (l : Fin 128) : EReal :=
  ∑ n, Ideal.exp2 (T q k i (row s n) - Mx q k i s) * v (row s n) l

/-- The blocks hold the query rows `qi`, and the key and value rows of the slots of `kb`. -/
structure Reads (qi : Fin 4) (kb : Fin 2) (x0 : Vec Ideal S1x1x512x128 .bf16) (x1 x2 : Vec Ideal S1x1x1024x128 .bf16) (q k v : Rows) : Prop where
  hq : ∀ (r : Fin 512) (d : Fin 128), x0 (ix4 0 0 r d) = q (row qi r) d
  klo : ∀ (n : Fin 512) (d : Fin 128), x1 (ix4 0 0 ⟨n.val, by omega⟩ d) = k (row (slot kb 0) n) d
  khi : ∀ (n : Fin 512) (d : Fin 128), x1 (ix4 0 0 ⟨512 + n.val, by omega⟩ d) = k (row (slot kb 1) n) d
  vlo : ∀ (n : Fin 512) (d : Fin 128), x2 (ix4 0 0 ⟨n.val, by omega⟩ d) = v (row (slot kb 0) n) d
  vhi : ∀ (n : Fin 512) (d : Fin 128), x2 (ix4 0 0 ⟨512 + n.val, by omega⟩ d) = v (row (slot kb 1) n) d

section
variable {qi : Fin 4} {kb : Fin 2} {x0 : Vec Ideal S1x1x512x128 .bf16} {x1 x2 : Vec Ideal S1x1x1024x128 .bf16} {q k v : Rows}

/-! ## A block before the diagonal -/

/-- Every key of such a block is before every query. -/
theorem full (q k : Rows) (h : kb.val * 2 + 2 ≤ qi.val) (c : Fin 2) (r n : Fin 512) :
    ∑ d, q (row qi r) d * kap * k (row (slot kb c) n) d = T q k (row qi r) (row (slot kb c) n) := by
  unfold T
  rw [if_pos]
  show (kb.val * 2 + c.val) * 512 + n.val ≤ qi.val * 512 + r.val
  omega

theorem dp_lo (R : Reads qi kb x0 x1 x2 q k v) (h : kb.val * 2 + 2 ≤ qi.val) (r : Fin 512) (l : Fin 128) :
    k1_pay9 (View.ld x0 rQ) (View.ld x1 rLo) (View.ld x2 rLo) (ix3 0 r l) = Ps q k v (row qi r) (slot kb 0) l := by
  pointwise [k1_pay9, k1_pay5, k1_pay6, k1_pay7, k1_pay8]
  simp only [R.hq, R.klo, R.vlo, named_scale, full q k h, Consts.ofBits_neg_inf]
  rfl

theorem dp_hi (R : Reads qi kb x0 x1 x2 q k v) (h : kb.val * 2 + 2 ≤ qi.val) (r : Fin 512) (l : Fin 128) :
    k1_pay16 (k1_pay5 (View.ld x0 rQ)) (View.ld x1 rHi) (View.ld x2 rHi) (ix3 0 r l) = Ps q k v (row qi r) (slot kb 1) l := by
  pointwise [k1_pay16, k1_pay5, k1_pay13, k1_pay14, k1_pay15]
  simp only [R.hq, R.khi, R.vhi, named_scale, full q k h, Consts.ofBits_neg_inf]
  rfl

theorem dm_lo (R : Reads qi kb x0 x1 x2 q k v) (h : kb.val * 2 + 2 ≤ qi.val) (r : Fin 512) (l : Fin 128) :
    k1_pay10 (View.ld x0 rQ) (View.ld x1 rLo) (ix3 0 r l) = Mx q k (row qi r) (slot kb 0) := by
  pointwise [k1_pay10, k1_pay5, k1_pay6, k1_pay7]
  simp only [R.hq, R.klo, named_scale, full q k h, Consts.ofBits_neg_inf]
  rfl

theorem dm_hi (R : Reads qi kb x0 x1 x2 q k v) (h : kb.val * 2 + 2 ≤ qi.val) (r : Fin 512) (l : Fin 128) :
    k1_pay17 (k1_pay5 (View.ld x0 rQ)) (View.ld x1 rHi) (ix3 0 r l) = Mx q k (row qi r) (slot kb 1) := by
  pointwise [k1_pay17, k1_pay5, k1_pay13, k1_pay14]
  simp only [R.hq, R.khi, named_scale, full q k h, Consts.ofBits_neg_inf]
  rfl

theorem dl_lo (R : Reads qi kb x0 x1 x2 q k v) (h : kb.val * 2 + 2 ≤ qi.val) (r : Fin 512) (l : Fin 128) :
    k1_pay12 (k1_pay11 (View.ld x0 rQ) (View.ld x1 rLo)) (ix3 0 r l) = Ls q k (row qi r) (slot kb 0) := by
  pointwise [k1_pay12, k1_pay11, k1_pay5, k1_pay6, k1_pay7, k1_pay8]
  simp only [R.hq, R.klo, named_scale, full q k h, Consts.ofBits_neg_inf]
  rfl

theorem dl_hi (R : Reads qi kb x0 x1 x2 q k v) (h : kb.val * 2 + 2 ≤ qi.val) (r : Fin 512) (l : Fin 128) :
    k1_pay18 (k1_pay5 (View.ld x0 rQ)) (View.ld x1 rHi) (ix3 0 r l) = Ls q k (row qi r) (slot kb 1) := by
  pointwise [k1_pay18, k1_pay5, k1_pay13, k1_pay14, k1_pay15]
  simp only [R.hq, R.khi, named_scale, full q k h, Consts.ofBits_neg_inf]
  rfl

/-! ## The diagonal block -/

/-- The comparison the mask is made of. -/
theorem mask_word {n1 n2 o : ℕ} (h1 : n1 < 4) (h2 : n2 < 2) (ho : o < 1024) (r n : Fin 512) (x : EReal) :
    Scalar.select (IntOp.cmpi CmpIPredicate.sge (IntOp.addi (Scalar.muli (BitVec.ofNat 32 n1) 512#32) (BitVec.ofNat 32 r.val))
      (IntOp.addi (Scalar.addi (Scalar.muli (BitVec.ofNat 32 n2) 1024#32) (BitVec.ofNat 32 o)) (BitVec.ofNat 32 n.val))) x (⊥ : EReal)
      = if n2 * 1024 + o + n.val ≤ n1 * 512 + r.val then x else ⊥ := by
  have e1 : IntOp.addi (Scalar.muli (BitVec.ofNat 32 n1) 512#32) (BitVec.ofNat 32 r.val) = BitVec.ofNat 32 (n1 * 512 + r.val) := by
    show BitVec.ofNat 32 n1 * 512#32 + BitVec.ofNat 32 r.val = _
    simp only [BitVec.ofNat_add, BitVec.ofNat_mul]
  have e2 : IntOp.addi (Scalar.addi (Scalar.muli (BitVec.ofNat 32 n2) 1024#32) (BitVec.ofNat 32 o)) (BitVec.ofNat 32 n.val)
      = BitVec.ofNat 32 (n2 * 1024 + o + n.val) := by
    show BitVec.ofNat 32 n2 * 1024#32 + BitVec.ofNat 32 o + BitVec.ofNat 32 n.val = _
    simp only [BitVec.ofNat_add, BitVec.ofNat_mul]
  rw [e1, e2, WordCmp.cmpi_sge_ofNat (by omega) (by omega), WordCmp.ofBool_decide_eq_ite]
  unfold Scalar.select
  split <;> rfl

theorem sc_lo (R : Reads qi kb x0 x1 x2 q k v) (r n : Fin 512) :
    k1_pay20 (BitVec.ofNat 32 qi.val) (BitVec.ofNat 32 kb.val) (View.ld x0 rQ) (View.ld x1 rLo) (ix2 r n)
      = T q k (row qi r) (row (slot kb 0) n) := by
  pointwise [k1_pay20, k1_pay19]
  simp only [R.hq, R.klo, named_scale, named_mask]
  refine (mask_word (o := 0) qi.isLt kb.isLt (by omega) r n _).trans ?_
  unfold T
  have e : (kb.val * 1024 + 0 + n.val ≤ qi.val * 512 + r.val) ↔ (row (slot kb 0) n).val ≤ (row qi r).val := by
    show _ ↔ (kb.val * 2 + 0) * 512 + n.val ≤ qi.val * 512 + r.val
    omega
  simp only [e]

theorem sc_hi (R : Reads qi kb x0 x1 x2 q k v) (r n : Fin 512) :
    k1_pay29 (BitVec.ofNat 32 qi.val) (BitVec.ofNat 32 kb.val) (k1_pay19 (View.ld x0 rQ)) (View.ld x1 rHi) (ix2 r n)
      = T q k (row qi r) (row (slot kb 1) n) := by
  pointwise [k1_pay29, k1_pay19]
  simp only [R.hq, R.khi, named_scale, named_mask]
  refine (mask_word (o := 512) qi.isLt kb.isLt (by omega) r n _).trans ?_
  unfold T
  have e : (kb.val * 1024 + 512 + n.val ≤ qi.val * 512 + r.val) ↔ (row (slot kb 1) n).val ≤ (row qi r).val := by
    show _ ↔ (kb.val * 2 + 1) * 512 + n.val ≤ qi.val * 512 + r.val
    omega
  simp only [e]

variable {i : grid1.Coords}

theorem cp_lo (R : Reads qi kb x0 x1 x2 q k v) (r : Fin 512) (l : Fin 128) :
    k1_pay25 (k1_pay24 (BitVec.ofNat 32 qi.val) (BitVec.ofNat 32 kb.val) (View.ld x0 rQ) (View.ld x1 rLo) (View.ld x2 rLo)) (ix3 0 r l)
      = Ps q k v (row qi r) (slot kb 0) l := by
  pointwise [k1_pay25, k1_pay24, k1_pay22, k1_pay21]
  simp only [sc_lo R, R.vlo, Consts.ofBits_neg_inf]
  rfl

theorem cm_lo (R : Reads qi kb x0 x1 x2 q k v) (r : Fin 512) (l : Fin 128) :
    k1_pay26 (k1_pay21 (BitVec.ofNat 32 qi.val) (BitVec.ofNat 32 kb.val) (View.ld x0 rQ) (View.ld x1 rLo)) (ix3 0 r l)
      = Mx q k (row qi r) (slot kb 0) := by
  pointwise [k1_pay26, k1_pay21]
  simp only [sc_lo R, Consts.ofBits_neg_inf]
  rfl

theorem cl_lo (R : Reads qi kb x0 x1 x2 q k v) (r : Fin 512) (l : Fin 128) :
    k1_pay27 (k1_pay23 (BitVec.ofNat 32 qi.val) (BitVec.ofNat 32 kb.val) (View.ld x0 rQ) (View.ld x1 rLo)) (ix3 0 r l)
      = Ls q k (row qi r) (slot kb 0) := by
  pointwise [k1_pay27, k1_pay23, k1_pay22, k1_pay21]
  simp only [sc_lo R, Consts.ofBits_neg_inf]
  rfl

theorem cp_hi (h1 : (i 1).val = qi.val) (h2 : (i 2).val = kb.val) (R : Reads qi kb x0 x1 x2 q k v) (r : Fin 512) (l : Fin 128) :
    k1_pay33 (k1_pay28 (View.ld x2 rHi)) (sHi i x0 x1) (mHi i x0 x1) (ix3 0 r l) = Ps q k v (row qi r) (slot kb 1) l := by
  pointwise [k1_pay33, k1_pay28, k1_pay31, k1_pay32, mHi, sHi, k1_pay30]
  simp only [h1, h2, sc_hi R, R.vhi, Consts.ofBits_neg_inf]
  rfl

theorem cm_hi (h1 : (i 1).val = qi.val) (h2 : (i 2).val = kb.val) (R : Reads qi kb x0 x1 x2 q k v) (r : Fin 512) (l : Fin 128) :
    k1_pay34 (mHi i x0 x1) (ix3 0 r l) = Mx q k (row qi r) (slot kb 1) := by
  pointwise [k1_pay34, k1_pay31, mHi, k1_pay30]
  simp only [h1, h2, sc_hi R, Consts.ofBits_neg_inf]
  rfl

theorem cl_hi (h1 : (i 1).val = qi.val) (h2 : (i 2).val = kb.val) (R : Reads qi kb x0 x1 x2 q k v) (r : Fin 512) (l : Fin 128) :
    k1_pay35 (sHi i x0 x1) (mHi i x0 x1) (ix3 0 r l) = Ls q k (row qi r) (slot kb 1) := by
  pointwise [k1_pay35, k1_pay31, k1_pay32, mHi, sHi, k1_pay30]
  simp only [h1, h2, sc_hi R, Consts.ofBits_neg_inf]
  rfl
end

/-! ## The slots -/

theorem slot_in {off : Fin S4x512x128.rank → ℕ} (inb : ∀ a, off a + S1x512x128.size a ≤ S4x512x128.size a) (s : Fin 4) (h : off = ![s.val, 0, 0])
    (r : Fin 512) (l : Fin 128) :
    (ix3 s r l : S4x512x128.Idx) = (Rect.unit (s := S4x512x128) off S1x512x128.size inb).emb (ix3 0 r l : S1x512x128.Idx) := by
  subst h
  funext a
  fin_cases a
  · exact Fin.ext (show s.val = s.val + 1 * 0 by omega)
  · exact Fin.ext (show r.val = 0 + 1 * r.val by omega)
  · exact Fin.ext (show l.val = 0 + 1 * l.val by omega)

theorem slot_out {off : Fin S4x512x128.rank → ℕ} (inb : ∀ a, off a + S1x512x128.size a ≤ S4x512x128.size a) (s u : Fin 4) (h : off = ![u.val, 0, 0])
    (hn : s.val ≠ u.val) (r : Fin 512) (l : Fin 128) :
    (ix3 s r l : S4x512x128.Idx) ∉ (Rect.unit (s := S4x512x128) off S1x512x128.size inb).set := by
  subst h
  intro hm
  have := Rect.mem_set_unit.mp hm 0
  have h1 : u.val ≤ s.val := this.1
  have h2 : s.val < u.val + 1 := this.2
  omega

/-- Two stores, at two slots. -/
theorem two_hi (X : Vec Ideal S4x512x128 .f32) {o1 o0 : Fin S4x512x128.rank → ℕ} (i1 : ∀ a, o1 a + S1x512x128.size a ≤ S4x512x128.size a) (i0 : ∀ a, o0 a + S1x512x128.size a ≤ S4x512x128.size a) (p1 p0 : Vec Ideal S1x512x128 .f32) (s : Fin 4)
    (h1 : o1 = ![s.val, 0, 0]) (r : Fin 512) (l : Fin 128) :
    over (Val := Elt Ideal) (e := .f32) X [⟨Rect.unit (s := S4x512x128) o1 S1x512x128.size i1, p1⟩, ⟨Rect.unit (s := S4x512x128) o0 S1x512x128.size i0, p0⟩]
      (ix3 s r l : S4x512x128.Idx) = p1 (ix3 0 r l) :=
  over_at X (Rect.unit (s := S4x512x128) o1 S1x512x128.size i1) p1 _ _ (slot_in i1 s h1 r l)

theorem two_lo (X : Vec Ideal S4x512x128 .f32) {o1 o0 : Fin S4x512x128.rank → ℕ} (i1 : ∀ a, o1 a + S1x512x128.size a ≤ S4x512x128.size a) (i0 : ∀ a, o0 a + S1x512x128.size a ≤ S4x512x128.size a) (p1 p0 : Vec Ideal S1x512x128 .f32) (s u : Fin 4)
    (h1 : o1 = ![u.val, 0, 0]) (h0 : o0 = ![s.val, 0, 0]) (hn : s.val ≠ u.val) (r : Fin 512) (l : Fin 128) :
    over (Val := Elt Ideal) (e := .f32) X [⟨Rect.unit (s := S4x512x128) o1 S1x512x128.size i1, p1⟩, ⟨Rect.unit (s := S4x512x128) o0 S1x512x128.size i0, p0⟩]
      (ix3 s r l : S4x512x128.Idx) = p0 (ix3 0 r l) :=
  (over_off X (Rect.unit (s := S4x512x128) o1 S1x512x128.size i1) p1 _ (slot_out i1 s u h1 hn r l)).trans (over_at X (Rect.unit (s := S4x512x128) o0 S1x512x128.size i0) p0 _ _ (slot_in i0 s h0 r l))

theorem two_out (X : Vec Ideal S4x512x128 .f32) {o1 o0 : Fin S4x512x128.rank → ℕ} (i1 : ∀ a, o1 a + S1x512x128.size a ≤ S4x512x128.size a) (i0 : ∀ a, o0 a + S1x512x128.size a ≤ S4x512x128.size a) (p1 p0 : Vec Ideal S1x512x128 .f32) (s u w : Fin 4)
    (h1 : o1 = ![u.val, 0, 0]) (h0 : o0 = ![w.val, 0, 0]) (hn : s.val ≠ u.val) (hn' : s.val ≠ w.val) (r : Fin 512) (l : Fin 128) :
    over (Val := Elt Ideal) (e := .f32) X [⟨Rect.unit (s := S4x512x128) o1 S1x512x128.size i1, p1⟩, ⟨Rect.unit (s := S4x512x128) o0 S1x512x128.size i0, p0⟩]
      (ix3 s r l : S4x512x128.Idx) = X (ix3 s r l) :=
  (over_off X (Rect.unit (s := S4x512x128) o1 S1x512x128.size i1) p1 _ (slot_out i1 s u h1 hn r l)).trans ((over_off X (Rect.unit (s := S4x512x128) o0 S1x512x128.size i0) p0 _ (slot_out i0 s w h0 hn' r l)).trans rfl)

/-! ## The merge -/

theorem sel_word {n b : ℕ} (hn : n < 2) (hb : b < 2) (x : EReal) :
    Scalar.select (Scalar.cmpi CmpIPredicate.sge (BitVec.ofNat 32 n) (BitVec.ofNat 32 b)) x (⊥ : EReal) = if b ≤ n then x else ⊥ := by
  rw [show Scalar.cmpi CmpIPredicate.sge (BitVec.ofNat 32 n) (BitVec.ofNat 32 b) = IntOp.cmpi CmpIPredicate.sge (BitVec.ofNat 32 n) (BitVec.ofNat 32 b) from rfl,
    WordCmp.cmpi_sge_ofNat (by omega) (by omega), WordCmp.ofBool_decide_eq_ite]
  unfold Scalar.select
  split <;> rfl

/-- The maximum of a slot, or nothing where the slot is not this row's. -/
def em (n : ℕ) (M : Fin 4 → EReal) (s : Fin 4) : EReal := if s.val / 2 ≤ n then M s else ⊥

theorem mergeOf_apply {n : ℕ} (hn : n < 2) (P M L : Vec Ideal S4x512x128 .f32) (r : Fin 512) (l : Fin 128) (e : Fin 4 → EReal)
    (he : e = em n fun s => M (ix3 s r 0)) :
    mergeOf (BitVec.ofNat 32 n) P M L (ix3 0 r l)
      = Ideal.div (∑ s : Fin 4, P (ix3 s r l) * Ideal.exp2 (e s - max (max (e 0) (e 1)) (max (e 2) (e 3))))
          (∑ s : Fin 4, L (ix3 s r 0) * Ideal.exp2 (e s - max (max (e 0) (e 1)) (max (e 2) (e 3)))) := by
  pointwise [mergeOf, k1_pay4, k1_pay39, k1_pay40, k1_pay36, k1_pay37, k1_pay38, k1_pay41, k1_pay42, k1_pay43, k1_pay44, k1_pay45, k1_pay46]
  simp only [named_mask]
  have e0 : Scalar.select (Scalar.cmpi CmpIPredicate.sge (BitVec.ofNat 32 n) 0#32) (M (ix3 0 r 0)) (⊥ : EReal) = e 0 := by
    rw [he]; exact sel_word (b := 0) hn (by omega) _
  have e1 : Scalar.select (Scalar.cmpi CmpIPredicate.sge (BitVec.ofNat 32 n) 0#32) (M (ix3 1 r 0)) (⊥ : EReal) = e 1 := by
    rw [he]; exact sel_word (b := 0) hn (by omega) _
  have e2 : Scalar.select (Scalar.cmpi CmpIPredicate.sge (BitVec.ofNat 32 n) 1#32) (M (ix3 2 r 0)) (⊥ : EReal) = e 2 := by
    rw [he]; exact sel_word (b := 1) hn (by omega) _
  have e3 : Scalar.select (Scalar.cmpi CmpIPredicate.sge (BitVec.ofNat 32 n) 1#32) (M (ix3 3 r 0)) (⊥ : EReal) = e 3 := by
    rw [he]; exact sel_word (b := 1) hn (by omega) _
  rw [e0, e1, e2, e3, Fin.sum_univ_four, Fin.sum_univ_four, ← max_assoc]
  rfl

end Cert.KernelIdeal.R1

end
-- ==== Proof.R1Arr.lean ====
/- The second call's result, element by element, over the queries, the keys and the values it is entered with: causal
   attention, where the queries and the keys are real. -/
module

public import proofs.«01_k».proof.Proof.R1Val
public import proofs.«01_k».proof.Proof.Soft
public import Idealize.ShloMosaic.Lib.Pipeline.Value
public import Idealize.ShloMosaic.Lib.Pipeline.ValueKit

@[expose] public section

set_option maxRecDepth 16384

noncomputable section

namespace Cert.KernelIdeal.R1

open Cert.KernelIdeal.Gen Cert.Aux
open Idealize.ShloMosaic Idealize.ShloMosaic.TcCoe
open Idealize.ShloMosaic.Pipeline (Dat Cfg Window)
open Cert.Soft (IsR Pair)

/-! ## The merged slots are the attention -/

theorem sum_rows (f : Fin 2048 → EReal) : ∑ j, f j = ∑ s : Fin 4, ∑ n : Fin 512, f (row s n) := by
  rw [← Fintype.sum_prod_type']
  refine (Fintype.sum_equiv (finProdFinEquiv (m := 4) (n := 512)) _ _ fun x => ?_).symm
  refine congrArg f (Fin.ext ?_)
  show x.1.val * 512 + x.2.val = x.2.val + 512 * x.1.val
  omega

/-- A score and the kernel's: the same number in two units. -/
theorem pair (q k : Rows) (hq : ∀ i d, IsR (q i d)) (hk : ∀ i d, IsR (k i d)) (i j : Fin 2048) :
    Pair (Spec.score q k i j) (T q k i j) := by
  unfold Spec.score T
  by_cases h : j.val ≤ i.val
  · rw [if_pos h, if_pos h]
    choose a ha using hq i
    choose b hb using hk j
    refine Or.inr ⟨(∑ d, a d * b d) * (Real.sqrt 128)⁻¹, ?_, ?_⟩
    · simp only [ha, hb, Spec.scale_eq, ← EReal.coe_mul, ← Soft.coe_sum]
    · unfold kap
      simp only [ha, hb, ← EReal.coe_mul, ← Soft.coe_sum]
      congr 1
      rw [div_eq_mul_inv, Finset.sum_mul, Finset.sum_mul]
      refine Finset.sum_congr rfl fun d _ => ?_
      ring
  · rw [if_neg h, if_neg h]
    exact Or.inl ⟨rfl, rfl⟩

theorem diag_ne_bot (q k : Rows) (hq : ∀ i d, IsR (q i d)) (hk : ∀ i d, IsR (k i d)) (i : Fin 2048) : Spec.score q k i i ≠ ⊥ := by
  unfold Spec.score
  rw [if_pos le_rfl]
  obtain ⟨r, hr⟩ : IsR ((∑ d, q i d * k i d) * Spec.scale) := by
    rw [Spec.scale_eq]
    exact (IsR.sum _ fun d _ => (hq i d).mul (hk i d)).mul (IsR.coe _)
  rw [hr]
  exact EReal.coe_ne_bot r

theorem merged {q k v : Rows} (hq : ∀ i d, IsR (q i d)) (hk : ∀ i d, IsR (k i d)) (qi : Fin 4) (r : Fin 512) (l : Fin 128)
    (P M L e : Fin 4 → EReal)
    (hM : ∀ s : Fin 4, s.val / 2 ≤ qi.val / 2 → M s = Mx q k (row qi r) s) (hL : ∀ s : Fin 4, s.val / 2 ≤ qi.val / 2 → L s = Ls q k (row qi r) s)
    (hP : ∀ s : Fin 4, s.val / 2 ≤ qi.val / 2 → P s = Ps q k v (row qi r) s l) (he : e = em (qi.val / 2) M) :
    Ideal.div (∑ s, P s * Ideal.exp2 (e s - max (max (e 0) (e 1)) (max (e 2) (e 3))))
        (∑ s, L s * Ideal.exp2 (e s - max (max (e 0) (e 1)) (max (e 2) (e 3))))
      = Spec.attn q k v (row qi r) l := by
  have hμ : IsR (Spec.top (Spec.score q k (row qi r))) :=
    Soft.isR_fold_max _ (fun j => (pair q k hq hk (row qi r) j).ne_top') (diag_ne_bot q k hq hk (row qi r))
  refine (Soft.merge (fun s n => Spec.score q k (row qi r) (row s n)) (fun s n => T q k (row qi r) (row s n)) (fun s n => v (row s n) l)
    (fun s => s.val / 2 ≤ qi.val / 2) P M L e (fun s n _ => pair q k hq hk _ _) hM (fun s h => by rw [hM s h]; exact hL s h)
    (fun s h => by rw [hM s h]; exact hP s h) (fun s => by rw [he]; rfl) (fun s n h => ?_)
    ⟨qi, r, diag_ne_bot q k hq hk (row qi r)⟩ rfl hμ).trans ?_
  · unfold Spec.score
    rw [if_neg]
    show ¬ s.val * 512 + n.val ≤ qi.val * 512 + r.val
    omega
  · unfold Spec.attn Spec.soft
    rw [sum_rows, sum_rows]

/-! ## The two chunks' stores -/

section
variable {i : grid1.Coords} {qi : Fin 4} {kb : Fin 2} {x0 : Vec Ideal S1x1x512x128 .bf16} {x1 x2 : Vec Ideal S1x1x1024x128 .bf16} {q k v : Rows}

theorem C_hi (h : k1_cond3 i = 1#1) (ho : ∀ r : Fin 2, k1_off2 i (BitVec.ofNat 32 r.val) = ![kb.val * 2 + r.val, 0, 0])
    (X : Vec Ideal S4x512x128 .f32) (p1 p0 : Vec Ideal S1x512x128 .f32) (r : Fin 512) (l : Fin 128) :
    over (Val := Elt Ideal) (e := .f32) X [⟨rC i h 1, p1⟩, ⟨rC i h 0, p0⟩] (ix3 (slot kb 1) r l : S4x512x128.Idx) = p1 (ix3 0 r l) :=
  two_hi X (k1_off2_inb i h 1) (k1_off2_inb i h 0) p1 p0 (slot kb 1) (ho 1) r l

theorem C_lo (h : k1_cond3 i = 1#1) (ho : ∀ r : Fin 2, k1_off2 i (BitVec.ofNat 32 r.val) = ![kb.val * 2 + r.val, 0, 0])
    (X : Vec Ideal S4x512x128 .f32) (p1 p0 : Vec Ideal S1x512x128 .f32) (r : Fin 512) (l : Fin 128) :
    over (Val := Elt Ideal) (e := .f32) X [⟨rC i h 1, p1⟩, ⟨rC i h 0, p0⟩] (ix3 (slot kb 0) r l : S4x512x128.Idx) = p0 (ix3 0 r l) :=
  two_lo X (k1_off2_inb i h 1) (k1_off2_inb i h 0) p1 p0 (slot kb 0) (slot kb 1) (ho 1) (ho 0)
    (by show kb.val * 2 + 0 ≠ kb.val * 2 + 1; omega) r l

theorem C_out (h : k1_cond3 i = 1#1) (ho : ∀ r : Fin 2, k1_off2 i (BitVec.ofNat 32 r.val) = ![kb.val * 2 + r.val, 0, 0])
    (X : Vec Ideal S4x512x128 .f32) (p1 p0 : Vec Ideal S1x512x128 .f32) (s : Fin 4) (hs : s.val / 2 ≠ kb.val) (r : Fin 512) (l : Fin 128) :
    over (Val := Elt Ideal) (e := .f32) X [⟨rC i h 1, p1⟩, ⟨rC i h 0, p0⟩] (ix3 s r l : S4x512x128.Idx) = X (ix3 s r l) :=
  two_out X (k1_off2_inb i h 1) (k1_off2_inb i h 0) p1 p0 s (slot kb 1) (slot kb 0) (ho 1) (ho 0)
    (by show s.val ≠ kb.val * 2 + 1; omega) (by show s.val ≠ kb.val * 2 + 0; omega) r l

theorem D_hi (h : k1_cond2 i = 1#1) (ho : ∀ r : Fin 2, k1_off1 i (BitVec.ofNat 32 r.val) = ![kb.val * 2 + r.val, 0, 0])
    (X : Vec Ideal S4x512x128 .f32) (p1 p0 : Vec Ideal S1x512x128 .f32) (r : Fin 512) (l : Fin 128) :
    over (Val := Elt Ideal) (e := .f32) X [⟨rD i h 1, p1⟩, ⟨rD i h 0, p0⟩] (ix3 (slot kb 1) r l : S4x512x128.Idx) = p1 (ix3 0 r l) :=
  two_hi X (k1_off1_inb i h 1) (k1_off1_inb i h 0) p1 p0 (slot kb 1) (ho 1) r l

theorem D_lo (h : k1_cond2 i = 1#1) (ho : ∀ r : Fin 2, k1_off1 i (BitVec.ofNat 32 r.val) = ![kb.val * 2 + r.val, 0, 0])
    (X : Vec Ideal S4x512x128 .f32) (p1 p0 : Vec Ideal S1x512x128 .f32) (r : Fin 512) (l : Fin 128) :
    over (Val := Elt Ideal) (e := .f32) X [⟨rD i h 1, p1⟩, ⟨rD i h 0, p0⟩] (ix3 (slot kb 0) r l : S4x512x128.Idx) = p0 (ix3 0 r l) :=
  two_lo X (k1_off1_inb i h 1) (k1_off1_inb i h 0) p1 p0 (slot kb 0) (slot kb 1) (ho 1) (ho 0)
    (by show kb.val * 2 + 0 ≠ kb.val * 2 + 1; omega) r l

/-- A slot of a scratch holds its chunk's part for a block of queries. -/
structure Part (qi : Fin 4) (q k v : Rows) (S : St Ideal) (s : Fin 4) : Prop where
  p : ∀ (r : Fin 512) (l : Fin 128), S.1 (ix3 s r l) = Ps q k v (row qi r) s l
  m : ∀ (r : Fin 512) (l : Fin 128), S.2.1 (ix3 s r l) = Mx q k (row qi r) s
  l : ∀ (r : Fin 512) (l : Fin 128), S.2.2 (ix3 s r l) = Ls q k (row qi r) s

theorem slot_cases (s : Fin 4) (h : s.val / 2 = kb.val) : s = slot kb 0 ∨ s = slot kb 1 := by
  rcases Nat.mod_two_eq_zero_or_one s.val with h' | h'
  · exact Or.inl (Fin.ext (show s.val = kb.val * 2 + 0 by omega))
  · exact Or.inr (Fin.ext (show s.val = kb.val * 2 + 1 by omega))

theorem CP_at (h : k1_cond3 i = 1#1) (ho : ∀ r : Fin 2, k1_off2 i (BitVec.ofNat 32 r.val) = ![kb.val * 2 + r.val, 0, 0])
    (h1 : (i 1).val = qi.val) (h2 : (i 2).val = kb.val) (R : Reads qi kb x0 x1 x2 q k v) (X : Vec Ideal S4x512x128 .f32) (s : Fin 4) (hs : s.val / 2 = kb.val)
    (r : Fin 512) (l : Fin 128) : over X (CP i x0 x1 x2 h) (ix3 s r l : S4x512x128.Idx) = Ps q k v (row qi r) s l := by
  unfold CP
  rcases slot_cases s hs with e | e
  · rw [e]
    exact (C_lo h ho X (k1_pay33 (k1_pay28 (View.ld x2 rHi)) (sHi i x0 x1) (mHi i x0 x1)) (k1_pay25 (k1_pay24 (BitVec.ofNat 32 (i 1).val) (BitVec.ofNat 32 (i 2).val) (View.ld x0 rQ) (View.ld x1 rLo) (View.ld x2 rLo))) r l).trans (by rw [h1, h2]; exact cp_lo R r l)
  · rw [e]
    exact (C_hi h ho X (k1_pay33 (k1_pay28 (View.ld x2 rHi)) (sHi i x0 x1) (mHi i x0 x1)) (k1_pay25 (k1_pay24 (BitVec.ofNat 32 (i 1).val) (BitVec.ofNat 32 (i 2).val) (View.ld x0 rQ) (View.ld x1 rLo) (View.ld x2 rLo))) r l).trans (cp_hi h1 h2 R r l)

theorem CP_out (h : k1_cond3 i = 1#1) (ho : ∀ r : Fin 2, k1_off2 i (BitVec.ofNat 32 r.val) = ![kb.val * 2 + r.val, 0, 0])
    (X : Vec Ideal S4x512x128 .f32) (s : Fin 4) (hs : s.val / 2 ≠ kb.val) (r : Fin 512) (l : Fin 128) :
    over X (CP i x0 x1 x2 h) (ix3 s r l : S4x512x128.Idx) = X (ix3 s r l) := by
  unfold CP
  exact C_out h ho X (k1_pay33 (k1_pay28 (View.ld x2 rHi)) (sHi i x0 x1) (mHi i x0 x1)) (k1_pay25 (k1_pay24 (BitVec.ofNat 32 (i 1).val) (BitVec.ofNat 32 (i 2).val) (View.ld x0 rQ) (View.ld x1 rLo) (View.ld x2 rLo))) s hs r l

theorem CM_at (h : k1_cond3 i = 1#1) (ho : ∀ r : Fin 2, k1_off2 i (BitVec.ofNat 32 r.val) = ![kb.val * 2 + r.val, 0, 0])
    (h1 : (i 1).val = qi.val) (h2 : (i 2).val = kb.val) (R : Reads qi kb x0 x1 x2 q k v) (X : Vec Ideal S4x512x128 .f32) (s : Fin 4) (hs : s.val / 2 = kb.val)
    (r : Fin 512) (l : Fin 128) : over X (CM i x0 x1 h) (ix3 s r l : S4x512x128.Idx) = Mx q k (row qi r) s := by
  unfold CM
  rcases slot_cases s hs with e | e
  · rw [e]
    exact (C_lo h ho X (k1_pay34 (mHi i x0 x1)) (k1_pay26 (k1_pay21 (BitVec.ofNat 32 (i 1).val) (BitVec.ofNat 32 (i 2).val) (View.ld x0 rQ) (View.ld x1 rLo))) r l).trans (by rw [h1, h2]; exact cm_lo R r l)
  · rw [e]
    exact (C_hi h ho X (k1_pay34 (mHi i x0 x1)) (k1_pay26 (k1_pay21 (BitVec.ofNat 32 (i 1).val) (BitVec.ofNat 32 (i 2).val) (View.ld x0 rQ) (View.ld x1 rLo))) r l).trans (cm_hi h1 h2 R r l)

theorem CM_out (h : k1_cond3 i = 1#1) (ho : ∀ r : Fin 2, k1_off2 i (BitVec.ofNat 32 r.val) = ![kb.val * 2 + r.val, 0, 0])
    (X : Vec Ideal S4x512x128 .f32) (s : Fin 4) (hs : s.val / 2 ≠ kb.val) (r : Fin 512) (l : Fin 128) :
    over X (CM i x0 x1 h) (ix3 s r l : S4x512x128.Idx) = X (ix3 s r l) := by
  unfold CM
  exact C_out h ho X (k1_pay34 (mHi i x0 x1)) (k1_pay26 (k1_pay21 (BitVec.ofNat 32 (i 1).val) (BitVec.ofNat 32 (i 2).val) (View.ld x0 rQ) (View.ld x1 rLo))) s hs r l

theorem CL_at (h : k1_cond3 i = 1#1) (ho : ∀ r : Fin 2, k1_off2 i (BitVec.ofNat 32 r.val) = ![kb.val * 2 + r.val, 0, 0])
    (h1 : (i 1).val = qi.val) (h2 : (i 2).val = kb.val) (R : Reads qi kb x0 x1 x2 q k v) (X : Vec Ideal S4x512x128 .f32) (s : Fin 4) (hs : s.val / 2 = kb.val)
    (r : Fin 512) (l : Fin 128) : over X (CL i x0 x1 h) (ix3 s r l : S4x512x128.Idx) = Ls q k (row qi r) s := by
  unfold CL
  rcases slot_cases s hs with e | e
  · rw [e]
    exact (C_lo h ho X (k1_pay35 (sHi i x0 x1) (mHi i x0 x1)) (k1_pay27 (k1_pay23 (BitVec.ofNat 32 (i 1).val) (BitVec.ofNat 32 (i 2).val) (View.ld x0 rQ) (View.ld x1 rLo))) r l).trans (by rw [h1, h2]; exact cl_lo R r l)
  · rw [e]
    exact (C_hi h ho X (k1_pay35 (sHi i x0 x1) (mHi i x0 x1)) (k1_pay27 (k1_pay23 (BitVec.ofNat 32 (i 1).val) (BitVec.ofNat 32 (i 2).val) (View.ld x0 rQ) (View.ld x1 rLo))) r l).trans (cl_hi h1 h2 R r l)

theorem CL_out (h : k1_cond3 i = 1#1) (ho : ∀ r : Fin 2, k1_off2 i (BitVec.ofNat 32 r.val) = ![kb.val * 2 + r.val, 0, 0])
    (X : Vec Ideal S4x512x128 .f32) (s : Fin 4) (hs : s.val / 2 ≠ kb.val) (r : Fin 512) (l : Fin 128) :
    over X (CL i x0 x1 h) (ix3 s r l : S4x512x128.Idx) = X (ix3 s r l) := by
  unfold CL
  exact C_out h ho X (k1_pay35 (sHi i x0 x1) (mHi i x0 x1)) (k1_pay27 (k1_pay23 (BitVec.ofNat 32 (i 1).val) (BitVec.ofNat 32 (i 2).val) (View.ld x0 rQ) (View.ld x1 rLo))) s hs r l

theorem DP_at (h : k1_cond2 i = 1#1) (ho : ∀ r : Fin 2, k1_off1 i (BitVec.ofNat 32 r.val) = ![kb.val * 2 + r.val, 0, 0])
    (hf : kb.val * 2 + 2 ≤ qi.val) (R : Reads qi kb x0 x1 x2 q k v) (X : Vec Ideal S4x512x128 .f32) (s : Fin 4) (hs : s.val / 2 = kb.val)
    (r : Fin 512) (l : Fin 128) : over X (DP i x0 x1 x2 h) (ix3 s r l : S4x512x128.Idx) = Ps q k v (row qi r) s l := by
  unfold DP
  rcases slot_cases s hs with e | e
  · rw [e]
    exact (D_lo h ho X (k1_pay16 (k1_pay5 (View.ld x0 rQ)) (View.ld x1 rHi) (View.ld x2 rHi)) (k1_pay9 (View.ld x0 rQ) (View.ld x1 rLo) (View.ld x2 rLo)) r l).trans (dp_lo R hf r l)
  · rw [e]
    exact (D_hi h ho X (k1_pay16 (k1_pay5 (View.ld x0 rQ)) (View.ld x1 rHi) (View.ld x2 rHi)) (k1_pay9 (View.ld x0 rQ) (View.ld x1 rLo) (View.ld x2 rLo)) r l).trans (dp_hi R hf r l)

theorem DM_at (h : k1_cond2 i = 1#1) (ho : ∀ r : Fin 2, k1_off1 i (BitVec.ofNat 32 r.val) = ![kb.val * 2 + r.val, 0, 0])
    (hf : kb.val * 2 + 2 ≤ qi.val) (R : Reads qi kb x0 x1 x2 q k v) (X : Vec Ideal S4x512x128 .f32) (s : Fin 4) (hs : s.val / 2 = kb.val)
    (r : Fin 512) (l : Fin 128) : over X (DM i x0 x1 h) (ix3 s r l : S4x512x128.Idx) = Mx q k (row qi r) s := by
  unfold DM
  rcases slot_cases s hs with e | e
  · rw [e]
    exact (D_lo h ho X (k1_pay17 (k1_pay5 (View.ld x0 rQ)) (View.ld x1 rHi)) (k1_pay10 (View.ld x0 rQ) (View.ld x1 rLo)) r l).trans (dm_lo R hf r l)
  · rw [e]
    exact (D_hi h ho X (k1_pay17 (k1_pay5 (View.ld x0 rQ)) (View.ld x1 rHi)) (k1_pay10 (View.ld x0 rQ) (View.ld x1 rLo)) r l).trans (dm_hi R hf r l)

theorem DL_at (h : k1_cond2 i = 1#1) (ho : ∀ r : Fin 2, k1_off1 i (BitVec.ofNat 32 r.val) = ![kb.val * 2 + r.val, 0, 0])
    (hf : kb.val * 2 + 2 ≤ qi.val) (R : Reads qi kb x0 x1 x2 q k v) (X : Vec Ideal S4x512x128 .f32) (s : Fin 4) (hs : s.val / 2 = kb.val)
    (r : Fin 512) (l : Fin 128) : over X (DL i x0 x1 h) (ix3 s r l : S4x512x128.Idx) = Ls q k (row qi r) s := by
  unfold DL
  rcases slot_cases s hs with e | e
  · rw [e]
    exact (D_lo h ho X (k1_pay18 (k1_pay5 (View.ld x0 rQ)) (View.ld x1 rHi)) (k1_pay12 (k1_pay11 (View.ld x0 rQ) (View.ld x1 rLo))) r l).trans (dl_lo R hf r l)
  · rw [e]
    exact (D_hi h ho X (k1_pay18 (k1_pay5 (View.ld x0 rQ)) (View.ld x1 rHi)) (k1_pay12 (k1_pay11 (View.ld x0 rQ) (View.ld x1 rLo))) r l).trans (dl_hi R hf r l)

end

/-! ## The points -/

theorem dkb_eq : ∀ t : Fin cfg1.N, dkb (grid1.coords t) = BitVec.ofNat 32 (t.val / 2 % 4 / 2) :=
  (by decide +kernel : ∀ t : Fin grid1.N, dkb (grid1.coords t) = BitVec.ofNat 32 (t.val / 2 % 4 / 2))
theorem co1 : ∀ t : Fin cfg1.N, (grid1.coords t 1).val = t.val / 2 % 4 :=
  (by decide +kernel : ∀ t : Fin grid1.N, (grid1.coords t 1).val = t.val / 2 % 4)
theorem co2 : ∀ t : Fin cfg1.N, (grid1.coords t 2).val = t.val % 2 :=
  (by decide +kernel : ∀ t : Fin grid1.N, (grid1.coords t 2).val = t.val % 2)
theorem off1 : ∀ (t : Fin cfg1.N) (r : Fin 2), k1_off1 (grid1.coords t) (BitVec.ofNat 32 r.val) = ![t.val % 2 * 2 + r.val, 0, 0] :=
  (by decide +kernel : ∀ (t : Fin grid1.N) (r : Fin 2), k1_off1 (grid1.coords t) (BitVec.ofNat 32 r.val) = ![t.val % 2 * 2 + r.val, 0, 0])
theorem off2 : ∀ (t : Fin cfg1.N) (r : Fin 2), k1_off2 (grid1.coords t) (BitVec.ofNat 32 r.val) = ![t.val % 2 * 2 + r.val, 0, 0] :=
  (by decide +kernel : ∀ (t : Fin grid1.N) (r : Fin 2), k1_off2 (grid1.coords t) (BitVec.ofNat 32 r.val) = ![t.val % 2 * 2 + r.val, 0, 0])
theorem idx0 : ∀ t : Fin cfg1.N, win1_0.index t = ![0, t.val / 128, t.val / 2 % 4, t.val / 8 % 16] :=
  (by decide +kernel : ∀ t : Fin grid1.N, win1_0.index t = ![0, t.val / 128, t.val / 2 % 4, t.val / 8 % 16])
theorem idx1 : ∀ t : Fin cfg1.N, win1_1.index t = ![1, t.val / 128, min (t.val % 2) (t.val / 2 % 4 / 2), t.val / 8 % 16] :=
  (by decide +kernel : ∀ t : Fin grid1.N, win1_1.index t = ![1, t.val / 128, min (t.val % 2) (t.val / 2 % 4 / 2), t.val / 8 % 16])
theorem idx2 : ∀ t : Fin cfg1.N, win1_2.index t = ![2, t.val / 128, min (t.val % 2) (t.val / 2 % 4 / 2), t.val / 8 % 16] :=
  (by decide +kernel : ∀ t : Fin grid1.N, win1_2.index t = ![2, t.val / 128, min (t.val % 2) (t.val / 2 % 4 / 2), t.val / 8 % 16])
theorem idx3 : ∀ t : Fin cfg1.N, win1_3.index t = ![t.val / 128, t.val / 2 % 4, t.val / 8 % 16] :=
  (by decide +kernel : ∀ t : Fin grid1.N, win1_3.index t = ![t.val / 128, t.val / 2 % 4, t.val / 8 % 16])

theorem lt_N (t : Fin cfg1.N) : t.val < 256 := lt_of_lt_of_eq t.isLt (show cfg1.N = 256 from N_1)

variable (V : (c : Dev nD) → (b : Ref sig .tc) → Buf (Elt Ideal) ((c : Thread nD τ).loc b))

/-- The rows of a head: the queries', the keys' or the values'. -/
def hrows (c : Dev nD) (o : Fin 3) (b : Fin 2) (h : Fin 16) : Rows :=
  fun i d => V c main_v19 (ix4 o b i ⟨h.val * 128 + d.val, by omega⟩ : S3x2x2048x2048.Idx)

/-- A point's batch, head and rows of queries. -/
def bOf (t : Fin cfg1.N) : Fin 2 := ⟨t.val / 128, by have := lt_N t; omega⟩
def hOf (t : Fin cfg1.N) : Fin 16 := ⟨t.val / 8 % 16, by omega⟩
def qOf (t : Fin cfg1.N) : Fin 4 := ⟨t.val / 2 % 4, by omega⟩
def kOf (t : Fin cfg1.N) : Fin 2 := ⟨t.val % 2, by omega⟩

theorem blk0 (c : Dev nD) (t : Fin cfg1.N) (r : Fin 512) (d : Fin 128) :
    iblk V c 0 t (ix4 0 0 r d) = hrows V c 0 (bOf t) (hOf t) (row (qOf t) r) d := by
  unfold hrows bOf hOf qOf row
  blk_ext [iblk, idx0 t]

theorem blk1 (c : Dev nD) (t : Fin cfg1.N) (ht : t.val % 2 ≤ t.val / 2 % 4 / 2) (n : Fin 1024) (d : Fin 128) :
    iblk V c 1 t (ix4 0 0 n d) = V c main_v19 (ix4 1 (bOf t) ⟨t.val % 2 * 1024 + n.val, by omega⟩ ⟨(hOf t).val * 128 + d.val, by omega⟩ : S3x2x2048x2048.Idx) := by
  unfold bOf hOf
  blk_ext [iblk, idx1 t]

theorem blk2 (c : Dev nD) (t : Fin cfg1.N) (ht : t.val % 2 ≤ t.val / 2 % 4 / 2) (n : Fin 1024) (d : Fin 128) :
    iblk V c 2 t (ix4 0 0 n d) = V c main_v19 (ix4 2 (bOf t) ⟨t.val % 2 * 1024 + n.val, by omega⟩ ⟨(hOf t).val * 128 + d.val, by omega⟩ : S3x2x2048x2048.Idx) := by
  unfold bOf hOf
  blk_ext [iblk, idx2 t]

/-- A point's queries, keys and values. -/
abbrev qs (c : Dev nD) (t : Fin cfg1.N) : Rows := hrows V c 0 (bOf t) (hOf t)
abbrev ks (c : Dev nD) (t : Fin cfg1.N) : Rows := hrows V c 1 (bOf t) (hOf t)
abbrev vs (c : Dev nD) (t : Fin cfg1.N) : Rows := hrows V c 2 (bOf t) (hOf t)

theorem reads (c : Dev nD) (t : Fin cfg1.N) (ht : t.val % 2 ≤ t.val / 2 % 4 / 2) :
    Reads (qOf t) (kOf t) (iblk V c 0 t) (iblk V c 1 t) (iblk V c 2 t) (qs V c t) (ks V c t) (vs V c t) where
  hq r d := blk0 V c t r d
  klo n d := (blk1 V c t ht _ d).trans (congrArg (fun i => V c main_v19 (ix4 1 (bOf t) i _ : S3x2x2048x2048.Idx))
    (Fin.ext (by show t.val % 2 * 1024 + n.val = (t.val % 2 * 2 + 0) * 512 + n.val; omega)))
  khi n d := (blk1 V c t ht _ d).trans (congrArg (fun i => V c main_v19 (ix4 1 (bOf t) i _ : S3x2x2048x2048.Idx))
    (Fin.ext (by show t.val % 2 * 1024 + (512 + n.val) = (t.val % 2 * 2 + 1) * 512 + n.val; omega)))
  vlo n d := (blk2 V c t ht _ d).trans (congrArg (fun i => V c main_v19 (ix4 2 (bOf t) i _ : S3x2x2048x2048.Idx))
    (Fin.ext (by show t.val % 2 * 1024 + n.val = (t.val % 2 * 2 + 0) * 512 + n.val; omega)))
  vhi n d := (blk2 V c t ht _ d).trans (congrArg (fun i => V c main_v19 (ix4 2 (bOf t) i _ : S3x2x2048x2048.Idx))
    (Fin.ext (by show t.val % 2 * 1024 + (512 + n.val) = (t.val % 2 * 2 + 1) * 512 + n.val; omega)))

theorem step_C (c : Dev nD) (t : Fin cfg1.N) (S : St Ideal) (h : k1_cond3 (grid1.coords t) = 1#1) :
    step V c t S = (over S.1 (CP (grid1.coords t) (iblk V c 0 t) (iblk V c 1 t) (iblk V c 2 t) h), over S.2.1 (CM (grid1.coords t) (iblk V c 0 t) (iblk V c 1 t) h), over S.2.2 (CL (grid1.coords t) (iblk V c 0 t) (iblk V c 1 t) h)) := by
  unfold step
  rw [dif_pos h]

theorem step_D (c : Dev nD) (t : Fin cfg1.N) (S : St Ideal) (hn : ¬ k1_cond3 (grid1.coords t) = 1#1) (h : k1_cond2 (grid1.coords t) = 1#1) :
    step V c t S = (over S.1 (DP (grid1.coords t) (iblk V c 0 t) (iblk V c 1 t) (iblk V c 2 t) h), over S.2.1 (DM (grid1.coords t) (iblk V c 0 t) (iblk V c 1 t) h), over S.2.2 (DL (grid1.coords t) (iblk V c 0 t) (iblk V c 1 t) h)) := by
  unfold step
  rw [dif_neg hn, dif_pos h]

theorem Part.of {qi : Fin 4} {q k v : Rows} {S : St Ideal} {A B C : Vec Ideal S4x512x128 .f32} {s : Fin 4} (e : S = (A, B, C))
    (hp : ∀ (r : Fin 512) (l : Fin 128), A (ix3 s r l) = Ps q k v (row qi r) s l)
    (hm : ∀ (r : Fin 512) (l : Fin 128), B (ix3 s r l) = Mx q k (row qi r) s)
    (hl : ∀ (r : Fin 512) (l : Fin 128), C (ix3 s r l) = Ls q k (row qi r) s) : Part qi q k v S s := by
  subst e
  exact ⟨hp, hm, hl⟩

theorem holds_C (c : Dev nD) (t : Fin cfg1.N) (hl : t.val % 2 = t.val / 2 % 4 / 2) (S : St Ideal) (s : Fin 4) (hs : s.val / 2 = t.val % 2) :
    Part (qOf t) (qs V c t) (ks V c t) (vs V c t) (step V c t S) s := by
  have h := (hcond2 t).mpr hl
  have R := reads V c t hl.le
  exact Part.of (step_C V c t S h) (@CP_at (grid1.coords t) (qOf t) (kOf t) (iblk V c 0 t) (iblk V c 1 t) (iblk V c 2 t) (qs V c t) (ks V c t) (vs V c t) h (off2 t) (co1 t) (co2 t) R S.1 s hs) (@CM_at (grid1.coords t) (qOf t) (kOf t) (iblk V c 0 t) (iblk V c 1 t) (iblk V c 2 t) (qs V c t) (ks V c t) (vs V c t) h (off2 t) (co1 t) (co2 t) R S.2.1 s hs)
    (@CL_at (grid1.coords t) (qOf t) (kOf t) (iblk V c 0 t) (iblk V c 1 t) (iblk V c 2 t) (qs V c t) (ks V c t) (vs V c t) h (off2 t) (co1 t) (co2 t) R S.2.2 s hs)

theorem holds_D (c : Dev nD) (t : Fin cfg1.N) (hd : 2 * (t.val % 2) + 2 ≤ t.val / 2 % 4) (S : St Ideal) (s : Fin 4) (hs : s.val / 2 = t.val % 2) :
    Part (qOf t) (qs V c t) (ks V c t) (vs V c t) (step V c t S) s := by
  have h := (hcond1 t).mpr hd
  have hn : ¬ k1_cond3 (grid1.coords t) = 1#1 := fun h' => by have := (hcond2 t).mp h'; omega
  have R := reads V c t (by omega)
  have hf : (kOf t).val * 2 + 2 ≤ (qOf t).val := by show t.val % 2 * 2 + 2 ≤ t.val / 2 % 4; omega
  exact Part.of (step_D V c t S hn h) (@DP_at (grid1.coords t) (qOf t) (kOf t) (iblk V c 0 t) (iblk V c 1 t) (iblk V c 2 t) (qs V c t) (ks V c t) (vs V c t) h (off1 t) hf R S.1 s hs) (@DM_at (grid1.coords t) (qOf t) (kOf t) (iblk V c 0 t) (iblk V c 1 t) (iblk V c 2 t) (qs V c t) (ks V c t) (vs V c t) h (off1 t) hf R S.2.1 s hs)
    (@DL_at (grid1.coords t) (qOf t) (kOf t) (iblk V c 0 t) (iblk V c 1 t) (iblk V c 2 t) (qs V c t) (ks V c t) (vs V c t) h (off1 t) hf R S.2.2 s hs)

/-- The diagonal block's point leaves the other slots as they were. -/
theorem keep_C (c : Dev nD) (t : Fin cfg1.N) (hl : t.val % 2 = t.val / 2 % 4 / 2) (S : St Ideal) (s : Fin 4) (hs : s.val / 2 ≠ t.val % 2)
    {qi : Fin 4} {q k v : Rows} (H : Part qi q k v S s) : Part qi q k v (step V c t S) s := by
  have h := (hcond2 t).mpr hl
  exact Part.of (step_C V c t S h)
    (fun r l => (CP_out (i := grid1.coords t) (kb := kOf t) (x0 := iblk V c 0 t) (x1 := iblk V c 1 t) (x2 := iblk V c 2 t) h (off2 t) S.1 s hs r l).trans (H.p r l))
    (fun r l => (CM_out (i := grid1.coords t) (kb := kOf t) (x0 := iblk V c 0 t) (x1 := iblk V c 1 t) h (off2 t) S.2.1 s hs r l).trans (H.m r l))
    (fun r l => (CL_out (i := grid1.coords t) (kb := kOf t) (x0 := iblk V c 0 t) (x1 := iblk V c 1 t) h (off2 t) S.2.2 s hs r l).trans (H.l r l))

/-- After a diagonal block's point every slot of its queries holds its chunk's part. -/
theorem holds (c : Dev nD) (t : Fin cfg1.N) (hl : t.val % 2 = t.val / 2 % 4 / 2) (s : Fin 4) (hs : s.val / 2 ≤ t.val / 2 % 4 / 2) :
    Part (qOf t) (qs V c t) (ks V c t) (vs V c t) (stB V c (t.val + 1)) s := by
  rw [stB_succ]
  by_cases h : s.val / 2 = t.val % 2
  · exact holds_C V c t hl _ s h
  · refine keep_C V c t hl _ s h ?_
    have hN := lt_N t
    obtain ⟨u, hu⟩ : ∃ u : Fin cfg1.N, u.val + 1 = t.val := ⟨⟨t.val - 1, lt_of_le_of_lt (Nat.sub_le _ _) t.isLt⟩, by show t.val - 1 + 1 = t.val; omega⟩
    rw [← hu, stB_succ]
    have H := holds_D V c u (by omega) (stB V c u.val) s (by omega)
    have eb : bOf u = bOf t := Fin.ext (by show u.val / 128 = t.val / 128; omega)
    have eh : hOf u = hOf t := Fin.ext (by show u.val / 8 % 16 = t.val / 8 % 16; omega)
    have eq : qOf u = qOf t := Fin.ext (by show u.val / 2 % 4 = t.val / 2 % 4; omega)
    unfold qs ks vs at H ⊢
    rw [eb, eh, eq] at H
    exact H

/-- What a diagonal block's point writes. -/
theorem outW_apply (c : Dev nD) (t : Fin cfg1.N) (hl : t.val % 2 = t.val / 2 % 4 / 2)
    (hq : ∀ i d, IsR (qs V c t i d)) (hk : ∀ i d, IsR (ks V c t i d)) (r : Fin 512) (l : Fin 128) :
    outW V c t (ix3 0 r l) = Spec.attn (qs V c t) (ks V c t) (vs V c t) (row (qOf t) r) l := by
  unfold outW outOf
  rw [View.canon_cons_unit_lit _ _ _ (by decide), dkb_eq]
  refine (mergeOf_apply (n := (qOf t).val / 2) (by have := (qOf t).isLt; omega) _ _ _ r l _ rfl).trans ?_
  have H := holds V c t hl
  exact merged hq hk (qOf t) r l (fun s => (stB V c (t.val + 1)).1 (ix3 s r l)) (fun s => (stB V c (t.val + 1)).2.1 (ix3 s r 0))
    (fun s => (stB V c (t.val + 1)).2.2 (ix3 s r 0)) _ (fun s h => (H s h).m r 0) (fun s h => (H s h).l r 0) (fun s h => (H s h).p r l) rfl

/-! ## The array -/

/-- The point that writes back the block of a batch, a head and 512 queries. -/
def pt (b : Fin 2) (h : Fin 16) (n : Fin 4) : Fin cfg1.N :=
  ⟨((b.val * 16 + h.val) * 4 + n.val) * 2 + 1, lt_of_lt_of_eq (b := 256) (by omega) (show 256 = cfg1.N from N_1.symm)⟩

theorem disjoint3 : ∀ t t' : Fin cfg1.N, (cfg1.win 3).flush t = true → (cfg1.win 3).flush t' = true → t ≠ t' →
    Disjoint ((cfg1.win 3).blk t).view.set ((cfg1.win 3).blk t').view.set := by
  intro t t' h h' hne
  have e := (flush1_3 t).mp h
  have e' := (flush1_3 t').mp h'
  refine (cfg1.win 3).disjoint_blk fun hi => hne (Fin.ext ?_)
  have hi' : win1_3.index t = win1_3.index t' := hi
  rw [idx3, idx3] at hi'
  have h0 : t.val / 128 = t'.val / 128 := congrFun hi' 0
  have h1 : t.val / 2 % 4 = t'.val / 2 % 4 := congrFun hi' 1
  have h2 : t.val / 8 % 16 = t'.val / 8 % 16 := congrFun hi' 2
  omega

/-- The call's result. -/
def res (c : Dev nD) : S2x2048x2048.Idx → EReal := (dat V c).arrAt 3 cfg1.N

theorem arr_out (c : Dev nD) (b : Fin 2) (s e : Fin 2048) (t : Fin cfg1.N) (ht : t.val = ((b.val * 16 + e.val / 128) * 4 + s.val / 512) * 2 + 1) :
    res V c (ix3 b s e) = (outAt V c t (ix3 0 ⟨s.val % 512, by omega⟩ ⟨e.val % 128, by omega⟩ : S1x512x128.Idx) : EReal) := by
  have key := (dat V c).arrAt_emb_eq_flushed 3 disjoint3 t ((flush1_3 t).mpr (by omega))
    (ix3 0 ⟨s.val % 512, by omega⟩ ⟨e.val % 128, by omega⟩ : S1x512x128.Idx)
  have hi : (ix3 b s e : S2x2048x2048.Idx)
      = ((cfg1.win 3).blk t).view.emb (ix3 0 ⟨s.val % 512, by omega⟩ ⟨e.val % 128, by omega⟩ : S1x512x128.Idx) := by
    clear key
    blk_ext [idx3 t]
  unfold res
  rw [hi]
  refine key.trans ?_
  show (dat V c).after 3 t _ = _
  rw [after3]
  rfl

/-- A head's lanes of the result: the attention of the head's rows. -/
theorem arr_at (c : Dev nD) (b : Fin 2) (s e : Fin 2048)
    (hq : ∀ i d, IsR (hrows V c 0 b ⟨e.val / 128, by omega⟩ i d)) (hk : ∀ i d, IsR (hrows V c 1 b ⟨e.val / 128, by omega⟩ i d)) :
    res V c (ix3 b s e) = Spec.attn (hrows V c 0 b ⟨e.val / 128, by omega⟩) (hrows V c 1 b ⟨e.val / 128, by omega⟩)
      (hrows V c 2 b ⟨e.val / 128, by omega⟩) s ⟨e.val % 128, by omega⟩ := by
  obtain ⟨t, ht⟩ : ∃ t : Fin cfg1.N, t.val = ((b.val * 16 + e.val / 128) * 4 + s.val / 512) * 2 + 1 :=
    ⟨pt b ⟨e.val / 128, by omega⟩ ⟨s.val / 512, by omega⟩, rfl⟩
  rw [arr_out V c b s e t ht]
  have key : ∀ u : Fin cfg1.N, u.val / 2 = t.val / 2 → u.val % 2 = u.val / 2 % 4 / 2 →
      (outW V c u (ix3 0 ⟨s.val % 512, by omega⟩ ⟨e.val % 128, by omega⟩ : S1x512x128.Idx) : EReal)
        = Spec.attn (hrows V c 0 b ⟨e.val / 128, by omega⟩) (hrows V c 1 b ⟨e.val / 128, by omega⟩)
          (hrows V c 2 b ⟨e.val / 128, by omega⟩) s ⟨e.val % 128, by omega⟩ := by
    intro u hu hl
    have hN := lt_N u
    have hu' : u.val / 2 = (b.val * 16 + e.val / 128) * 4 + s.val / 512 := by clear hl; omega
    have he : e.val / 128 < 16 := by clear hl; omega
    have hs : s.val / 512 < 4 := by clear hl; omega
    have eb : bOf u = b := Fin.ext (by show u.val / 128 = b.val; clear hl hu ht; omega)
    have eh : hOf u = ⟨e.val / 128, by omega⟩ := Fin.ext (by show u.val / 8 % 16 = e.val / 128; clear eb hl hu ht; omega)
    have er : row (qOf u) ⟨s.val % 512, by omega⟩ = s := Fin.ext (by show u.val / 2 % 4 * 512 + s.val % 512 = s.val; clear eb eh hl hu ht; omega)
    have h := outW_apply V c u hl
    unfold qs ks vs at h
    rw [eb, eh] at h
    rw [h hq hk, er]
  unfold outAt
  split
  · next h => exact key t rfl h
  · next h =>
    exact key ⟨t.val - 1, lt_of_le_of_lt (Nat.sub_le _ _) t.isLt⟩ (by show (t.val - 1) / 2 = t.val / 2; omega) (by
      show (t.val - 1) % 2 = (t.val - 1) / 2 % 4 / 2
      omega)

end Cert.KernelIdeal.R1

end
-- ==== Proof.R2Arr.lean ====
/- The third call's result, element by element, over the contents of the buffers it is entered with. -/
module

public import proofs.«01_k».proof.Proof.R2Dat
public import proofs.«01_k».proof.Proof.Spec
public import Idealize.ShloMosaic.Lib.Pointwise
public import Idealize.ShloMosaic.Lib.Pipeline.Value
public import Idealize.ShloMosaic.Lib.Pipeline.ValueKit

@[expose] public section

set_option maxRecDepth 16384

noncomputable section

namespace Cert.KernelIdeal.R2

open Cert.KernelIdeal.Gen
open Idealize.ShloMosaic Idealize.ShloMosaic.TcCoe
open Idealize.ShloMosaic.Pipeline (Dat Cfg Window)

variable (V : (c : Dev nD) → (b : Ref sig .tc) → Buf (Elt Ideal) ((c : Thread nD τ).loc b))

theorem outOf_apply (x0 : Vec Ideal S512x2048 .bf16) (x1 : Vec Ideal S2048x2048 .bf16) (r : Fin 512) (e : Fin 2048) :
    outOf x0 x1 (ix2 r e) = ∑ k : Fin 2048, x0 (ix2 r k) * x1 (ix2 k e) := by
  unfold outOf
  rw [View.canon_cons_unit_lit _ _ _ (by decide)]
  pointwise [k2_pay1]

theorem idx0 : ∀ t : Fin cfg2.N, win2_0.index t = ![t.val, 0] :=
  (by decide +kernel : ∀ t : Fin grid2.N, win2_0.index t = ![t.val, 0])
theorem idx1 : ∀ t : Fin cfg2.N, win2_1.index t = ![0, 0] :=
  (by decide +kernel : ∀ t : Fin grid2.N, win2_1.index t = ![0, 0])
theorem idx2 : ∀ t : Fin cfg2.N, win2_2.index t = ![t.val, 0] :=
  (by decide +kernel : ∀ t : Fin grid2.N, win2_2.index t = ![t.val, 0])

theorem lt_N (t : Fin cfg2.N) : t.val < 8 := lt_of_lt_of_eq t.isLt (show cfg2.N = 8 from N_2)

theorem blk0 (c : Dev nD) (t : Fin cfg2.N) (r : Fin 512) (d : Fin 2048) :
    iblk V c 0 t (ix2 r d) = V c main_v21 (ix2 ⟨t.val * 512 + r.val, by have := lt_N t; omega⟩ d) := by
  blk_ext [iblk, idx0 t]

theorem blk1 (c : Dev nD) (t : Fin cfg2.N) (k e : Fin 2048) :
    iblk V c 1 t (ix2 k e) = V c main_v22 (ix2 k e) := by
  blk_ext [iblk, idx1 t]

theorem disjoint2 : ∀ t t' : Fin cfg2.N, (cfg2.win 2).flush t = true → (cfg2.win 2).flush t' = true → t ≠ t' →
    Disjoint ((cfg2.win 2).blk t).view.set ((cfg2.win 2).blk t').view.set :=
  fun t t' _ _ hne => (cfg2.win 2).disjoint_blk fun h =>
    hne ((by decide +kernel : ∀ t t' : Fin grid2.N, win2_2.index t = win2_2.index t' → t = t') t t' h)

/-- The call's result. -/
def res (c : Dev nD) : S4096x2048.Idx → EReal := (dat V c).arrAt 2 cfg2.N

/-- The rows of the attention, projected. -/
theorem arr_at (c : Dev nD) (r : Fin 4096) (e : Fin 2048) :
    res V c (ix2 r e) = Spec.out (fun d => V c main_v21 (ix2 r d)) (fun d e => V c main_v22 (ix2 d e)) e := by
  obtain ⟨t, ht⟩ : ∃ t : Fin cfg2.N, t.val = r.val / 512 :=
    ⟨⟨r.val / 512, lt_of_lt_of_eq (b := 8) (by omega) (show 8 = cfg2.N from N_2.symm)⟩, rfl⟩
  have key := (dat V c).arrAt_emb_eq_flushed 2 disjoint2 t (flush2_2 _) (ix2 ⟨r.val % 512, by omega⟩ e : S512x2048.Idx)
  have hi : (ix2 r e : S4096x2048.Idx) = ((cfg2.win 2).blk t).view.emb (ix2 ⟨r.val % 512, by omega⟩ e : S512x2048.Idx) := by
    clear key
    blk_ext [idx2 t]
  have hr : (⟨t.val * 512 + r.val % 512, by omega⟩ : Fin 4096) = r := Fin.ext (by show _ * 512 + _ = _; omega)
  have h : res V c (ix2 r e) = ((dat V c).after 2 t (ix2 ⟨r.val % 512, by omega⟩ e : S512x2048.Idx) : EReal) := by
    unfold res
    rw [hi]
    exact key
  rw [h, after2, outOf_apply]
  simp only [blk0, blk1, hr]
  rfl

end Cert.KernelIdeal.R2

end
-- ==== Proof.KVal.lean ====
/- What the kernel leaves in its result, element by element, over its arguments: where the weights of the queries and the
   keys are real, the reference's mathematics. -/
module

public import proofs.«01_k».proof.Proof.KHost
public import proofs.«01_k».proof.Proof.R0Arr
public import proofs.«01_k».proof.Proof.R1Arr
public import proofs.«01_k».proof.Proof.R2Arr
public import proofs.«01_k».proof.Proof.Spec

@[expose] public section

set_option maxRecDepth 16384

noncomputable section

namespace Cert.KernelIdeal.Val

open Cert.KernelIdeal.Gen
open Idealize.ShloMosaic Idealize.ShloMosaic.TcCoe
open Cert.Soft (IsR)

variable (m : (ℓ : Loc nD τ sig) → Buf (Elt Ideal) ℓ) (c : Dev nD)

/-- The arguments: positions, hidden states, the projection's weights and the output's. -/
def aP : S2x2048.Idx → BitVec 32 := m ((c : Thread nD τ).loc main_arg0)
def aX : S2x2048x2048.Idx → EReal := m ((c : Thread nD τ).loc main_arg1)
def aW : S2048x6144.Idx → EReal := m ((c : Thread nD τ).loc main_arg2)
def aO : S2048x2048.Idx → EReal := m ((c : Thread nD τ).loc main_arg3)

/-- A batch's rows, its positions, the weights. -/
def rX (b : Fin 2) : Fin 2048 → Spec.Row := fun j d => aX m c (ix3 b j d)
def rW : Fin 2048 → Fin 6144 → EReal := fun k e => aW m c (ix2 k e)
def rP (b : Fin 2) : Fin 2048 → BitVec 32 := fun j => aP m c (ix2 b j)

theorem xrow (b : Fin 2) (s : Fin 2048) :
    (fun d => (V1 m c main_v0 (ix2 ⟨b.val * 2048 + s.val, by omega⟩ d : S4096x2048.Idx) : EReal)) = rX m c b s :=
  funext fun d => Host.x_at m c b s d

theorem wcol : (fun k e => (V1 m c main_v18 (ix2 k e : S2048x6144.Idx) : EReal)) = rW m c :=
  funext fun k => funext fun e => Host.w_at m c k e

theorem o2_eq (i : S3x2x2048x2048.Idx) : (Run.W2 m c main_v19 i : EReal) = R0.res (fun c b => V1 m c b) c i := by
  rw [Run.W2_same]
  rfl

/-- A head of the queries or of the keys. -/
theorem rope_rows (o : Fin 3) (ho : o.val < 2) (b : Fin 2) (h : Fin 16) (i : Fin 2048) (d : Fin 128) :
    R1.hrows (fun c b => Run.W2 m c b) c o b h i d = Spec.head o (rX m c b i) (rW m c) (rP m c b i) h d := by
  unfold R1.hrows
  refine (o2_eq m c _).trans ?_
  rw [R0.arr_rope _ c o ho, xrow, wcol]
  have hc : (fun j : Fin 64 => (V1 m c main_v17 (ix2 ⟨b.val * 2048 + i.val, by omega⟩ ⟨j.val, by omega⟩ : S4096x128.Idx) : EReal))
      = fun j => Ideal.cos (Spec.ang (rP m c b i) j) := funext fun j => Host.cos_at m c b i j
  have hs : (fun j : Fin 64 => (V1 m c main_v17 (ix2 ⟨b.val * 2048 + i.val, by omega⟩ ⟨64 + j.val, by omega⟩ : S4096x128.Idx) : EReal))
      = fun j => Ideal.sin (Spec.ang (rP m c b i) j) := funext fun j => Host.sin_at m c b i j
  rw [hc, hs]
  unfold Spec.head Spec.rot
  have hd : (⟨(h.val * 128 + d.val) % 128, by omega⟩ : Fin 128) = d := Fin.ext (by show (h.val * 128 + d.val) % 128 = d.val; omega)
  have hl : (fun l : Fin 128 => Spec.proj (rX m c b i) (rW m c) ⟨o.val * 2048 + ((h.val * 128 + d.val) / 128 * 128 + l.val), by omega⟩)
      = fun l => Spec.proj (rX m c b i) (rW m c) (Spec.col o h l) := funext fun l => congrArg _ (Fin.ext (by
        show o.val * 2048 + ((h.val * 128 + d.val) / 128 * 128 + l.val) = o.val * 2048 + (h.val * 128 + l.val)
        omega))
  exact (congrArg (fun y => Spec.rotT y _ _ _) hl).trans (congrArg (Spec.rotT _ _ _) hd)

/-- A head of the values. -/
theorem plain_rows (b : Fin 2) (h : Fin 16) (i : Fin 2048) (d : Fin 128) :
    R1.hrows (fun c b => Run.W2 m c b) c 2 b h i d = Spec.proj (rX m c b i) (rW m c) (Spec.col 2 h d) := by
  unfold R1.hrows
  refine (o2_eq m c _).trans ?_
  rw [R0.arr_plain _ c, xrow, wcol]
  exact congrArg _ (Fin.ext (by show 2 * 2048 + (h.val * 128 + d.val) = 2 * 2048 + (h.val * 128 + d.val); rfl))

theorem o3_eq (i : S2x2048x2048.Idx) : (Run.o3 m c i : EReal) = R1.res (fun c b => Run.W2 m c b) c i := rfl

/-- The second call's result. -/
theorem mixed_at (hw : ∀ (k : Fin 2048) (e : Fin 6144), e.val < 4096 → IsR (rW m c k e)) (b : Fin 2) (s e : Fin 2048) :
    (Run.o3 m c (ix3 b s e : S2x2048x2048.Idx) : EReal) = Spec.mixed (rX m c b) (rW m c) (rP m c b) s e := by
  have q : ∀ h : Fin 16, R1.hrows (fun c b => Run.W2 m c b) c 0 b h = fun j => Spec.head 0 (rX m c b j) (rW m c) (rP m c b j) h :=
    fun h => funext fun i => funext fun d => rope_rows m c 0 (by decide) b h i d
  have k : ∀ h : Fin 16, R1.hrows (fun c b => Run.W2 m c b) c 1 b h = fun j => Spec.head 1 (rX m c b j) (rW m c) (rP m c b j) h :=
    fun h => funext fun i => funext fun d => rope_rows m c 1 (by decide) b h i d
  have v : ∀ h : Fin 16, R1.hrows (fun c b => Run.W2 m c b) c 2 b h = fun j l => Spec.proj (rX m c b j) (rW m c) (Spec.col 2 h l) :=
    fun h => funext fun i => funext fun d => plain_rows m c b h i d
  rw [o3_eq, R1.arr_at _ c b s e (fun i d => by rw [q]; exact Spec.head_isR 0 (by decide) _ _ _ _ hw d)
    (fun i d => by rw [k]; exact Spec.head_isR 1 (by decide) _ _ _ _ hw d), q, k, v]
  rfl

/-- The kernel's result. -/
theorem result_at (hw : ∀ (k : Fin 2048) (e : Fin 6144), e.val < 4096 → IsR (rW m c k e)) (b : Fin 2) (s e : Fin 2048) :
    (V6 m (Run.outs m) c main_v24 (ix3 b s e : S2x2048x2048.Idx) : EReal)
      = Spec.out (Spec.mixed (rX m c b) (rW m c) (rP m c b) s) (fun d e => aO m c (ix2 d e)) e := by
  rw [Host.y_at]
  refine (R2.arr_at (fun c b => Run.W4 m c b) c _ e).trans ?_
  have ha : (fun d => (Run.W4 m c main_v21 (ix2 ⟨b.val * 2048 + s.val, by omega⟩ d : S4096x2048.Idx) : EReal))
      = Spec.mixed (rX m c b) (rW m c) (rP m c b) s := funext fun d => (Host.a_at m c b s d).trans (mixed_at m c hw b s d)
  have ho : (fun d e => (Run.W4 m c main_v22 (ix2 d e : S2048x2048.Idx) : EReal)) = fun d e => aO m c (ix2 d e) :=
    funext fun d => funext fun e => Host.wo_at m c d e
  rw [ha, ho]

end Cert.KernelIdeal.Val

end
-- ==== Proof.RefTerm.lean ====
/- The reference's result as a chain of named stages: the normalisation, the projections, the rotation of the queries and
   keys, the masked scores, the softmax, the weighted values and the output projection. -/
module

public import proofs.«01_k».proof.Proof.Gen.ReferenceIdeal.Run
public import Idealize.ShloMosaic.Lib.Pointwise

@[expose] public section

set_option maxRecDepth 16384

noncomputable section

namespace Cert.RefVal

open Cert.ReferenceIdeal Cert.ReferenceIdeal.Gen Idealize.ShloMosaic Idealize.ShloMosaic.TcCoe

/-- A float array of this shape over the extended reals. -/
abbrev V (S : Shape) := FVec Ideal S .f32

/-- A row less its mean. -/
def rCtr (X : V S2x2048x2048) : V S2x2048x2048 :=
  subf X (broadcastInDim S2x2048x2048 ![0, 1, 2] bcast_S2x2048x1_S2x2048x2048_0_1_2 (Host.divf (broadcastInDim S2x2048x1 ![0, 1] bcast_S2x2048_S2x2048x1_0_1 (Host.reduceAdd X (constant S_ .f32 0x00000000#32) reducesTo_S2x2048x2048_S2x2048_d2 h_S_)) (broadcastInDim S2x2048x1 ![] bcast_S_S2x2048x1 (constant S_ .f32 0x45000000#32))))

/-- The normalised rows. -/
def rLn (X : V S2x2048x2048) : V S2x2048x2048 :=
  mulf (rCtr X) (broadcastInDim S2x2048x2048 ![0, 1, 2] bcast_S2x2048x1_S2x2048x2048_0_1_2 (Host.rsqrt (addf (Host.divf (broadcastInDim S2x2048x1 ![0, 1] bcast_S2x2048_S2x2048x1_0_1 (Host.reduceAdd (mulf (rCtr X) (rCtr X)) (constant S_ .f32 0x00000000#32) reducesTo_S2x2048x2048_S2x2048_d2 h_S_)) (broadcastInDim S2x2048x1 ![] bcast_S_S2x2048x1 (constant S_ .f32 0x45000000#32))) (broadcastInDim S2x2048x1 ![] bcast_S_S2x2048x1 (constant S_ .f32 0x3727C5AC#32)))))

/-- The rows projected to queries, keys and values. -/
def rProj (X : V S2x2048x2048) (W : V S2048x6144) : V S2x2048x6144 :=
  Host.dotGeneral dot_S2x2048x2048_S2048x6144_S2x2048x6144_2_0_01_1_n_n none (rLn X) W

/-- The queries, by head. -/
def rQ (Y : V S2x2048x6144) : V S2x2048x16x128 :=
  shapeCast _ (extractStridedSlice S2x2048x2048 ![0, 0, 0] Y slices_S2x2048x6144_S2x2048x2048_0_0_0) shapeCasts_S2x2048x2048_S2x2048x16x128
/-- The keys, by head. -/
def rK (Y : V S2x2048x6144) : V S2x2048x16x128 :=
  shapeCast _ (extractStridedSlice S2x2048x2048 ![0, 0, 2048] Y slices_S2x2048x6144_S2x2048x2048_0_0_2048) shapeCasts_S2x2048x2048_S2x2048x16x128
/-- The values, by head. -/
def rV (Y : V S2x2048x6144) : V S2x2048x16x128 :=
  shapeCast _ (extractStridedSlice S2x2048x2048 ![0, 0, 4096] Y slices_S2x2048x6144_S2x2048x2048_0_0_4096) shapeCasts_S2x2048x2048_S2x2048x16x128

/-- The rotation angles. -/
def rAng (p : IVec S2x2048 32) : V S2x2048x64 :=
  mulf (broadcastInDim S2x2048x64 ![0, 1, 2] bcast_S2x2048x1_S2x2048x64_0_1_2 (broadcastInDim S2x2048x1 ![0, 1] bcast_S2x2048_S2x2048x1_0_1 (sitofp .f32 p))) (broadcastInDim S2x2048x64 ![0, 1, 2] bcast_S1x1x64_S2x2048x64_0_1_2 (broadcastInDim S1x1x64 ![2] bcast_S64_S1x1x64_2 (Host.divf (broadcastInDim S64 ![] bcast_S_S64 (constant S_ .f32 0x3F800000#32)) (Host.powf (broadcastInDim S64 ![] bcast_S_S64 (constant S_ .f32 0x461C4000#32)) (Host.divf (sitofp .f32 (iotaInDim S64 32 0)) (broadcastInDim S64 ![] bcast_S_S64 (constant S_ .f32 0x42800000#32)))))))

/-- A table of angles, the same for every head. -/
def rSpread (A : V S2x2048x64) : V S2x2048x16x64 :=
  broadcastInDim S2x2048x16x64 ![0, 1, 2, 3] bcast_S2x2048x1x64_S2x2048x16x64_0_1_2_3 (broadcastInDim S2x2048x1x64 ![0, 1, 3] bcast_S2x2048x64_S2x2048x1x64_0_1_3 A)

/-- Heads rotated by the angles. -/
def rRope (H : V S2x2048x16x128) (A : V S2x2048x64) : V S2x2048x16x128 :=
  concatenate S2x2048x16x128 3
    [⟨S2x2048x16x64, subf (mulf (extractStridedSlice S2x2048x16x64 ![0, 0, 0, 0] H slices_S2x2048x16x128_S2x2048x16x64_0_0_0_0) (rSpread (Host.cos A)))
        (mulf (extractStridedSlice S2x2048x16x64 ![0, 0, 0, 64] H slices_S2x2048x16x128_S2x2048x16x64_0_0_0_64) (rSpread (Host.sin A)))⟩,
     ⟨S2x2048x16x64, addf (mulf (extractStridedSlice S2x2048x16x64 ![0, 0, 0, 64] H slices_S2x2048x16x128_S2x2048x16x64_0_0_0_64) (rSpread (Host.cos A)))
        (mulf (extractStridedSlice S2x2048x16x64 ![0, 0, 0, 0] H slices_S2x2048x16x128_S2x2048x16x64_0_0_0_0) (rSpread (Host.sin A)))⟩]
    concatenates_S2x2048x16x64_S2x2048x16x64_S2x2048x16x128_d3

/-- The scaled scores, masked above the diagonal. -/
def rScore (Q K : V S2x2048x16x128) : V S2x16x2048x2048 :=
  select (broadcastInDim S2x16x2048x2048 ![2, 3] bcast_S2048x2048_S2x16x2048x2048_2_3 (select (cmpi .sge (addi (iotaInDim S2048x2048 32 0) (broadcastInDim S2048x2048 ![] bcast_S_S2048x2048 (constantI S_ 32 0#32))) (iotaInDim S2048x2048 32 1)) (broadcastInDim S2048x2048 ![] bcast_S_S2048x2048 (constantI S_ 1 1#1)) (broadcastInDim S2048x2048 ![] bcast_S_S2048x2048 (constantI S_ 1 0#1))))
    (mulf (Host.dotGeneral dot_S2x2048x16x128_S2x2048x16x128_S2x16x2048x2048_3_3_1_1_02_02 none Q K) (broadcastInDim S2x16x2048x2048 ![] bcast_S_S2x16x2048x2048 (Host.divf (constant S_ .f32 0x3F800000#32) (Host.sqrt (constant S_ .f32 0x43000000#32)))))
    (broadcastInDim S2x16x2048x2048 ![] bcast_S_S2x16x2048x2048 (id (constant S_ .f32 0xFF800000#32)))

/-- The largest score of each query. -/
def rMax (S : V S2x16x2048x2048) : V S2x16x2048 :=
  maximumf (broadcastInDim S2x16x2048 ![] bcast_S_S2x16x2048 (constant S_ .f32 0xFF800000#32)) (Host.reduce FloatOps.maximumf S (constant S_ .f32 0xFF800000#32) reducesTo_S2x16x2048x2048_S2x16x2048_d3 h_S_)

/-- One number for each query, along the keys. -/
def rAlong (M : V S2x16x2048) : V S2x16x2048x2048 :=
  broadcastInDim S2x16x2048x2048 ![0, 1, 2, 3] bcast_S2x16x2048x1_S2x16x2048x2048_0_1_2_3 (broadcastInDim S2x16x2048x1 ![0, 1, 2] bcast_S2x16x2048_S2x16x2048x1_0_1_2 M)

/-- The exponentials of the scores. -/
def rExp (S : V S2x16x2048x2048) : V S2x16x2048x2048 := Host.exp (subf S (rAlong (rMax S)))

/-- The softmax. -/
def rProb (E : V S2x16x2048x2048) : V S2x16x2048x2048 :=
  Host.divf E (rAlong (Host.reduceAdd E (constant S_ .f32 0x00000000#32) reducesTo_S2x16x2048x2048_S2x16x2048_d3 h_S_))

/-- The weighted values, heads side by side. -/
def rAttn (U : V S2x2048x16x128) (P : V S2x16x2048x2048) : V S2x2048x2048 :=
  shapeCast _ (transpose S2x2048x16x128 [0, 3, 1, 2] (Host.dotGeneral dot_S2x2048x16x128_S2x16x2048x2048_S2x16x128x2048_1_3_3_2_02_01 none U P) transposes_S2x16x128x2048_S2x2048x16x128_0_3_1_2) shapeCasts_S2x2048x16x128_S2x2048x2048

/-- The output projection. -/
def rOut (A : V S2x2048x2048) (W : V S2048x2048) : V S2x2048x2048 :=
  Host.dotGeneral dot_S2x2048x2048_S2048x2048_S2x2048x2048_2_0_01_1_n_n none A W

/-- All stages in turn. -/
def rAll (p : IVec S2x2048 32) (X : V S2x2048x2048) (W : V S2048x6144) (Wo : V S2048x2048) : V S2x2048x2048 :=
  rOut (rAttn (rV (rProj X W)) (rProb (rExp (rScore (rRope (rQ (rProj X W)) (rAng p)) (rRope (rK (rProj X W)) (rAng p)))))) Wo

open Cert.ReferenceIdeal.Value in
set_option maxHeartbeats 4000000 in
/-- The reference's result is these stages in turn. -/
theorem res_eq (m : (ℓ : Loc nD τ sig) → Buf (Elt Ideal) ℓ) (c : Dev nD) :
    res_main_v107 m c = rAll (m ((c.tc : Thread nD τ).loc main_arg0)) (m ((c.tc : Thread nD τ).loc main_arg1))
      (m ((c.tc : Thread nD τ).loc main_arg2)) (m ((c.tc : Thread nD τ).loc main_arg3)) := by
  unfold res_main_v107
  generalize m ((c.tc : Thread nD τ).loc main_arg0) = p
  generalize m ((c.tc : Thread nD τ).loc main_arg1) = X
  generalize m ((c.tc : Thread nD τ).loc main_arg2) = W
  generalize m ((c.tc : Thread nD τ).loc main_arg3) = Wo
  unfold rAll
  rw [← rCtr.eq_1 X, ← rLn.eq_1 X, ← rProj.eq_1 X W, ← rAng.eq_1 p]
  rw [← rQ.eq_1, ← rK.eq_1, ← rV.eq_1]
  generalize rQ (rProj X W) = Q
  generalize rK (rProj X W) = K
  generalize rV (rProj X W) = U
  generalize rAng p = A
  rw [← rSpread.eq_1 (Host.cos A), ← rSpread.eq_1 (Host.sin A), ← rRope.eq_1 Q A, ← rRope.eq_1 K A]
  generalize rRope Q A = Q'
  generalize rRope K A = K'
  rw [← rScore.eq_1 Q' K']
  generalize rScore Q' K' = T
  rw [← rMax.eq_1 T, ← rAlong.eq_1 (rMax T), ← rExp.eq_1 T]
  rfl

end Cert.RefVal

end
-- ==== Proof.RefVal.lean ====
/- The reference's result at an index, in the scalars of `Cert.Spec`. -/
module

public import proofs.«01_k».proof.Proof.RefTerm
public import proofs.«01_k».proof.Proof.Spec
public import Idealize.ShloMosaic.Lib.Pointwise
public import Idealize.ShloMosaic.Lib.WordCmp
public import Idealize.ShloMosaic.Lib.KernelVsHost

@[expose] public section

set_option maxRecDepth 16384

noncomputable section

namespace Cert.RefVal

open Cert.ReferenceIdeal Cert.ReferenceIdeal.Gen Idealize.ShloMosaic Idealize.ShloMosaic.TcCoe

theorem rCtr_apply (X : V S2x2048x2048) (b : Fin 2) (s d : Fin 2048) :
    rCtr X (ix3 b s d) = Spec.ctr (fun k => X (ix3 b s k)) d := by
  pointwise [rCtr]
  rfl

theorem rLn_apply (X : V S2x2048x2048) (b : Fin 2) (s d : Fin 2048) :
    rLn X (ix3 b s d) = Spec.ln (fun k => X (ix3 b s k)) d := by
  pointwise [rLn]
  simp only [rCtr_apply]
  rfl

theorem rProj_apply (X : V S2x2048x2048) (W : V S2048x6144) (b : Fin 2) (s : Fin 2048) (e : Fin 6144) :
    rProj X W (ix3 b s e) = Spec.proj (fun k => X (ix3 b s k)) (fun k e => W (ix2 k e)) e := by
  pointwise [rProj]
  unfold Spec.proj
  exact Finset.sum_congr rfl fun k _ => by rw [rLn_apply]

theorem rQ_apply (Y : V S2x2048x6144) (b : Fin 2) (s : Fin 2048) (h : Fin 16) (l : Fin 128) :
    rQ Y (ix4 b s h l) = Y (ix3 b s (Spec.col 0 h l)) := by
  pointwise [rQ]
  exact congrArg (fun e => Y (ix3 b s e)) (Fin.ext (by show (h.val * 128 + l.val) = 0 * 2048 + (h.val * 128 + l.val); omega))

theorem rK_apply (Y : V S2x2048x6144) (b : Fin 2) (s : Fin 2048) (h : Fin 16) (l : Fin 128) :
    rK Y (ix4 b s h l) = Y (ix3 b s (Spec.col 1 h l)) := by
  pointwise [rK]
  exact congrArg (fun e => Y (ix3 b s e)) (Fin.ext (by show 2048 + (h.val * 128 + l.val) = 1 * 2048 + (h.val * 128 + l.val); omega))

theorem rV_apply (Y : V S2x2048x6144) (b : Fin 2) (s : Fin 2048) (h : Fin 16) (l : Fin 128) :
    rV Y (ix4 b s h l) = Y (ix3 b s (Spec.col 2 h l)) := by
  pointwise [rV]
  exact congrArg (fun e => Y (ix3 b s e)) (Fin.ext (by show 4096 + (h.val * 128 + l.val) = 2 * 2048 + (h.val * 128 + l.val); omega))

theorem rAng_apply (p : IVec S2x2048 32) (b : Fin 2) (s : Fin 2048) (j : Fin 64) :
    rAng p (ix3 b s j) = Spec.ang (p (ix2 b s)) j := by
  pointwise [rAng]
  rfl

theorem rRope_apply (H : V S2x2048x16x128) (A : V S2x2048x64) (b : Fin 2) (s : Fin 2048) (h : Fin 16) (l : Fin 128) :
    rRope H A (ix4 b s h l) = Spec.rot (fun l => H (ix4 b s h l)) (fun j => A (ix3 b s j)) l := by
  pointwise [rRope, rSpread]
  unfold Spec.rot Spec.rotT
  split
  · rfl
  · next h =>
    have e : (⟨64 + (l.val - 64), by omega⟩ : Fin 128) = l := Fin.ext (by simp; omega)
    simp only [e]

theorem mask_word (s l : Fin 2048) :
    Scalar.select (IntOp.cmpi CmpIPredicate.sge (IntOp.addi (BitVec.ofNat 32 s.val) 0#32) (BitVec.ofNat 32 l.val)) 1#1 0#1
      = if l.val ≤ s.val then 1#1 else 0#1 := by
  rw [show IntOp.addi (BitVec.ofNat 32 s.val) 0#32 = BitVec.ofNat 32 s.val from BitVec.add_zero _,
    WordCmp.cmpi_sge_ofNat (by omega) (by omega), WordCmp.ofBool_decide_eq_ite]
  unfold Scalar.select
  split <;> rfl

theorem rScore_apply (Q K : V S2x2048x16x128) (b : Fin 2) (h : Fin 16) (s l : Fin 2048) :
    rScore Q K (ix4 b h s l) = Spec.score (fun s d => Q (ix4 b s h d)) (fun s d => K (ix4 b s h d)) s l := by
  pointwise [rScore]
  rw [mask_word]
  unfold Spec.score Scalar.select
  by_cases hl : l.val ≤ s.val
  · rw [if_pos hl, if_pos hl]
    rfl
  · rw [if_neg hl, if_neg hl]
    exact Consts.ofBits_neg_inf

theorem reduces_keys : S2x16x2048x2048.Reduces [3] S2x16x2048 := by decide

theorem lift_keys (b : Fin 2) (h : Fin 16) (s l : Fin 2048) : reduces_keys.lift (ix3 b h s) l = ix4 b h s l := by
  funext a
  fin_cases a <;> rfl

theorem maximumf_at (x y : V S2x16x2048) (j : S2x16x2048.Idx) : maximumf x y j = max (x j) (y j) := rfl

theorem floor_at (j : S2x16x2048.Idx) :
    broadcastInDim S2x16x2048 ![] bcast_S_S2x16x2048 (constant (F := Ideal) S_ .f32 0xFF800000#32) j = Ideal.ofBits .f32 0xFF800000#32 :=
  rfl

theorem rMax_apply (S : V S2x16x2048x2048) (b : Fin 2) (h : Fin 16) (s : Fin 2048) :
    rMax S (ix3 b h s) = Spec.top (fun l => S (ix4 b h s l)) := by
  have e : Host.reduce FloatOps.maximumf S (constant S_ .f32 0xFF800000#32) reducesTo_S2x16x2048x2048_S2x16x2048_d3 h_S_ (ix3 b h s)
      = (Finset.univ : Finset (Fin 2048)).fold max (Ideal.ofBits .f32 0xFF800000#32) (S ∘ reduces_keys.lift (ix3 b h s)) :=
    (congrFun (hostReduce_maximumf_eq_multiReduction S 0xFF800000#32 reducesTo_S2x16x2048x2048_S2x16x2048_d3 h_S_
        reduces_keys (.inl rfl) rfl) (ix3 b h s)).trans
      (Ideal.multiReduction_maximumf_single S 0xFF800000#32 reduces_keys (.inl rfl) rfl (ix3 b h s))
  unfold rMax
  rw [maximumf_at, floor_at, e, Consts.ofBits_neg_inf, max_eq_right bot_le]
  unfold Spec.top
  exact congrArg (fun f : Fin 2048 → EReal => Finset.univ.fold max (⊥ : EReal) f)
    (funext fun l => congrArg S (lift_keys b h s l))

theorem rExp_apply (S : V S2x16x2048x2048) (b : Fin 2) (h : Fin 16) (s l : Fin 2048) :
    rExp S (ix4 b h s l) = Ideal.exp (S (ix4 b h s l) - Spec.top (fun l => S (ix4 b h s l))) := by
  pointwise [rExp, rAlong]
  rw [rMax_apply]

theorem rProb_apply (S : V S2x16x2048x2048) (b : Fin 2) (h : Fin 16) (s l : Fin 2048) :
    rProb (rExp S) (ix4 b h s l) = Spec.soft (fun l => S (ix4 b h s l)) l := by
  pointwise [rProb, rAlong]
  simp only [rExp_apply]
  rfl

theorem rAttn_apply (U : V S2x2048x16x128) (P : V S2x16x2048x2048) (b : Fin 2) (s d : Fin 2048) :
    rAttn U P (ix3 b s d) = ∑ j : Fin 2048, U (ix4 b j ⟨d.val / 128, by omega⟩ ⟨d.val % 128, by omega⟩)
      * P (ix4 b ⟨d.val / 128, by omega⟩ s j) := by
  pointwise [rAttn]

theorem rOut_apply (A : V S2x2048x2048) (W : V S2048x2048) (b : Fin 2) (s e : Fin 2048) :
    rOut A W (ix3 b s e) = Spec.out (fun d => A (ix3 b s d)) (fun d e => W (ix2 d e)) e := by
  pointwise [rOut]
  rfl

/-- The reference's result at an index. -/
theorem rAll_apply (p : IVec S2x2048 32) (X : V S2x2048x2048) (W : V S2048x6144) (Wo : V S2048x2048)
    (b : Fin 2) (s e : Fin 2048) :
    rAll p X W Wo (ix3 b s e)
      = Spec.out (Spec.mixed (fun j k => X (ix3 b j k)) (fun k e => W (ix2 k e)) (fun j => p (ix2 b j)) s)
          (fun d e => Wo (ix2 d e)) e := by
  unfold rAll
  rw [rOut_apply]
  congr 1
  funext d
  rw [rAttn_apply]
  unfold Spec.mixed Spec.attn
  simp only [rV_apply, rProj_apply, rProb_apply, rScore_apply, rRope_apply, rQ_apply, rK_apply, rAng_apply]
  rfl

end Cert.RefVal

end
-- ==== Proof.Alg.lean ====
/- The value claim: where the weights of the queries and the keys are finite, the kernel and the reference end with the same
   result. -/
module

public import proofs.«01_k».proof.Proof.KVal
public import proofs.«01_k».proof.Proof.RefVal
public import proofs.«01_k».proof.Proof.Frames
public import Idealize.ShloMosaic.Lib.ReduceAll
public import Idealize.ShloMosaic.Lib.Pointwise

@[expose] public section

set_option maxRecDepth 16384

noncomputable section

namespace Cert.Proof

open Idealize.ShloMosaic Idealize.ShloMosaic.TcCoe Idealize.SL.Sem
open Cert.Soft (IsR)
open Cert.KernelIdeal (S2x2048x2048 S2048x6144 S2048x2048 S2x2048)

instance pre_facts : Cert.Pre_finite_weights.Facts where
  slices_S2048x6144_S2048x4096_0_0 := by decide
  bcast_S_S2048x4096 := by decide
  reducesTo_S2048x4096_S_d0_1 := by decide
  h_S_ := by decide

/-- An extended real whose absolute value is under the top is real. -/
theorem isR_of_abs_lt {x : EReal} (h : max x (-x) < ⊤) : IsR x := by
  refine Soft.isR_of (fun e => ?_) (fun e => ?_)
  · subst e
    simp at h
  · subst e
    simp at h

/-- The precondition, read back: the weights of the queries and the keys are real. -/
theorem weights_real (p : IVec S2x2048 32) (X : FVec Ideal S2x2048x2048 .f32) (W : FVec Ideal S2048x6144 .f32) (Wo : FVec Ideal S2048x2048 .f32)
    (h : Cert.Pre_finite_weights.fn (F := Ideal) p X W Wo = fun _ => 1#1) (k : Fin 2048) (e : Fin 6144) (he : e.val < 4096) :
    IsR (W (ix2 k e)) := by
  have : Subsingleton (Cert.Pre_finite_weights.S_).Idx := ⟨fun a b => funext fun i => i.elim0⟩
  have h0 := congrFun h (fun i => i.elim0)
  dsimp only [Cert.Pre_finite_weights.fn] at h0
  have h1 := Host.reduce_andi_all _ _ _ _ _ h0 (ix2 k ⟨e.val, he⟩ : Cert.Pre_finite_weights.S2048x4096.Idx)
  pointwise [] at h1
  rw [Consts.ofBits_inf] at h1
  refine isR_of_abs_lt ?_
  by_contra hn
  have h2 : decide (FloatOps.absf (W (ix2 k e)) < (⊤ : EReal)) = false := decide_eq_false hn
  rw [h2] at h1
  exact absurd h1 (by decide)

/-- The two results are one function of the arguments. -/
theorem values (m : (ℓ : Loc Cert.KernelIdeal.nD Cert.KernelIdeal.τ Cert.KernelIdeal.sig) → Buf (Elt Ideal) ℓ) (c : Dev Cert.KernelIdeal.nD)
    (hw : ∀ (k : Fin 2048) (e : Fin 6144), e.val < 4096 → IsR (KernelIdeal.Val.rW m c k e)) :
    (Cert.RefVal.rAll (KernelIdeal.Val.aP m c) (KernelIdeal.Val.aX m c) (KernelIdeal.Val.aW m c) (KernelIdeal.Val.aO m c) : S2x2048x2048.Idx → EReal)
      = Cert.KernelIdeal.Gen.V6 m (Cert.KernelIdeal.Run.outs m) c Cert.KernelIdeal.main_v24 := by
  funext i
  obtain ⟨b, s, e, rfl⟩ : ∃ (b : Fin 2) (s e : Fin 2048), i = ix3 b s e :=
    ⟨i 0, i 1, i 2, by funext a; fin_cases a <;> rfl⟩
  rw [Cert.RefVal.rAll_apply]
  exact (KernelIdeal.Val.result_at m c hw b s e).symm

theorem frame_pi_pre : Cert.quiescent_KernelIdeal_pre_finite_weights := fun m g _ => Cert.KernelIdeal.Run.frame_run m g

theorem frame_ri_pre : Cert.quiescent_ReferenceIdeal_pre_finite_weights := fun m g _ => frame_ri m g trivial

theorem algebraic : Cert.algebraic_KernelIdeal_ReferenceIdeal_pre_finite_weights := by
  intro m g m' g' hp ha
  refine ⟨fun c => Cert.KernelIdeal.Gen.V6 m (Cert.KernelIdeal.Run.outs m) c Cert.KernelIdeal.main_v24, ?_, ?_⟩
  · exact (θ_run Cert.KernelIdeal.defs _ _).mono (fun r h c => ⟨(h.1 c).2.2.2.2, (h.1 c).1, (h.1 c).2.1, (h.1 c).2.2.1, (h.1 c).2.2.2.1⟩)
      (Cert.KernelIdeal.Run.run m g)
  · refine (θ_run Cert.ReferenceIdeal.defs _ _).mono (fun r h c => ⟨(h c).1.trans ?_, (h c).2⟩) (Cert.ReferenceIdeal.Value.run (F := Ideal) m' g')
    rw [Cert.RefVal.res_eq, (ha c).1, (ha c).2.1, (ha c).2.2.1, (ha c).2.2.2]
    exact values m c fun k e he => weights_real _ _ _ _ (hp c) k e he

end Cert.Proof

end
-- ==== Proof.lean ====
/-
The certificate: the frames of the kernel, of its ideal form and of the reference, the two named constants, and the value
of the ideal form: it is the reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Alg

@[expose] public section

noncomputable section

namespace Cert.Proof

theorem claim : Cert.Claim := ⟨Cert.Kernel.Gen.facts, Cert.KernelIdeal.Gen.facts, Cert.ReferenceIdeal.Gen.facts, pre_facts,
  frame_p, frame_pi, frame_pi_pre, frame_ri, frame_ri_pre, named_ok, algebraic⟩

end Cert.Proof

end
